-- ==== Defs.lean ====
def Pre_Kernel (m : (ℓ : Loc Cert.Kernel.nD Cert.Kernel.τ Cert.Kernel.sig) → Buf (Elt Bits) ℓ) : Prop :=
  True

def Pre_Quantise (m : (ℓ : Loc Cert.Quantise.nD Cert.Quantise.τ Cert.Quantise.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Scales (m : (ℓ : Loc Cert.Scales.nD Cert.Scales.τ Cert.Scales.sig) → Buf (Elt Bits) ℓ) : Prop :=
  True

def Pre_ScalesIdeal (m : (ℓ : Loc Cert.ScalesIdeal.nD Cert.ScalesIdeal.τ Cert.ScalesIdeal.sig) → Buf (Elt Ideal) ℓ) : Prop :=
  True

def Pre_ScalesIdeal_maxima_in_range [hPre_maxima_in_range : Cert.Pre_maxima_in_range.Facts] (m : (ℓ : Loc Cert.ScalesIdeal.nD Cert.ScalesIdeal.τ Cert.ScalesIdeal.sig) → Buf (Elt Ideal) ℓ) : Prop :=
  ∀ c : Dev Cert.ScalesIdeal.nD,
    (Cert.Pre_maxima_in_range.fn (F := Ideal) (m ((c.tc : Thread Cert.ScalesIdeal.nD Cert.ScalesIdeal.τ).loc Cert.ScalesIdeal.main_arg0)) (m ((c.tc : Thread Cert.ScalesIdeal.nD Cert.ScalesIdeal.τ).loc Cert.ScalesIdeal.main_arg1))) = (fun _ => 1#1)

def Pre_ScalesRefIdeal (m : (ℓ : Loc Cert.ScalesRefIdeal.nD Cert.ScalesRefIdeal.τ Cert.ScalesRefIdeal.sig) → Buf (Elt Ideal) ℓ) : Prop :=
  True

def Pre_ScalesRefIdeal_maxima_in_range [hPre_maxima_in_range : Cert.Pre_maxima_in_range.Facts] (m : (ℓ : Loc Cert.ScalesRefIdeal.nD Cert.ScalesRefIdeal.τ Cert.ScalesRefIdeal.sig) → Buf (Elt Ideal) ℓ) : Prop :=
  ∀ c : Dev Cert.ScalesRefIdeal.nD,
    (Cert.Pre_maxima_in_range.fn (F := Ideal) (m ((c.tc : Thread Cert.ScalesRefIdeal.nD Cert.ScalesRefIdeal.τ).loc Cert.ScalesRefIdeal.main_arg0)) (m ((c.tc : Thread Cert.ScalesRefIdeal.nD Cert.ScalesRefIdeal.τ).loc Cert.ScalesRefIdeal.main_arg1))) = (fun _ => 1#1)

def Pre_ScalesRef (m : (ℓ : Loc Cert.ScalesRef.nD Cert.ScalesRef.τ Cert.ScalesRef.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0)
      ∧ r.2.mem ((c.tc : Thread Cert.Quantise.nD Cert.Quantise.τ).loc Cert.Quantise.main_arg1) = m ((c.tc : Thread Cert.Quantise.nD Cert.Quantise.τ).loc Cert.Quantise.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Scales [hScales : Cert.Scales.Facts] : Prop :=
  ∀ (m : (ℓ : Loc Cert.Scales.nD Cert.Scales.τ Cert.Scales.sig) → Buf (Elt Bits) ℓ) (g : Dev Cert.Scales.nD → PrngReg), Pre_Scales m →
    θ_run (Cert.Scales.defs (F := Bits)) (onTc (τ := Cert.Scales.τ) (Cert.Scales.main (F := Bits))) ⟨m, fun _ => 0, g⟩ (fun r => (∀ c : Dev Cert.Scales.nD,
      r.2.mem ((c.tc : Thread Cert.Scales.nD Cert.Scales.τ).loc Cert.Scales.main_arg0) = m ((c.tc : Thread Cert.Scales.nD Cert.Scales.τ).loc Cert.Scales.main_arg0)
      ∧ r.2.mem ((c.tc : Thread Cert.Scales.nD Cert.Scales.τ).loc Cert.Scales.main_arg1) = m ((c.tc : Thread Cert.Scales.nD Cert.Scales.τ).loc Cert.Scales.main_arg1))
      ∧ r.2.sem = fun _ => 0)

def quiescent_ScalesIdeal [hScalesIdeal : Cert.ScalesIdeal.Facts] : Prop :=
  ∀ (m : (ℓ : Loc Cert.ScalesIdeal.nD Cert.ScalesIdeal.τ Cert.ScalesIdeal.sig) → Buf (Elt Ideal) ℓ) (g : Dev Cert.ScalesIdeal.nD → PrngReg), Pre_ScalesIdeal m →
    θ_run (Cert.ScalesIdeal.defs (F := Ideal)) (onTc (τ := Cert.ScalesIdeal.τ) (Cert.ScalesIdeal.main (F := Ideal))) ⟨m, fun _ => 0, g⟩ (fun r => (∀ c : Dev Cert.ScalesIdeal.nD,
      r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
      ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1))
      ∧ r.2.sem = fun _ => 0)

def quiescent_ScalesIdeal_pre_maxima_in_range [hScalesIdeal : Cert.ScalesIdeal.Facts] [hPre_maxima_in_range : Cert.Pre_maxima_in_range.Facts] : Prop :=
  ∀ (m : (ℓ : Loc Cert.ScalesIdeal.nD Cert.ScalesIdeal.τ Cert.ScalesIdeal.sig) → Buf (Elt Ideal) ℓ) (g : Dev Cert.ScalesIdeal.nD → PrngReg), Pre_ScalesIdeal_maxima_in_range m →
    θ_run (Cert.ScalesIdeal.defs (F := Ideal)) (onTc (τ := Cert.ScalesIdeal.τ) (Cert.ScalesIdeal.main (F := Ideal))) ⟨m, fun _ => 0, g⟩ (fun r => (∀ c : Dev Cert.ScalesIdeal.nD,
      r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
      ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1))
      ∧ r.2.sem = fun _ => 0)

def quiescent_ScalesRefIdeal [hScalesRefIdeal : Cert.ScalesRefIdeal.Facts] : Prop :=
  ∀ (m : (ℓ : Loc Cert.ScalesRefIdeal.nD Cert.ScalesRefIdeal.τ Cert.ScalesRefIdeal.sig) → Buf (Elt Ideal) ℓ) (g : Dev Cert.ScalesRefIdeal.nD → PrngReg), Pre_ScalesRefIdeal m →
    θ_run (Cert.ScalesRefIdeal.defs (F := Ideal)) (onTc (τ := Cert.ScalesRefIdeal.τ) (Cert.ScalesRefIdeal.main (F := Ideal))) ⟨m, fun _ => 0, g⟩ (fun r => (∀ c : Dev Cert.ScalesRefIdeal.nD,
      r.2.mem ((c.tc : Thread Cert.ScalesRefIdeal.nD Cert.ScalesRefIdeal.τ).loc Cert.ScalesRefIdeal.main_arg0) = m ((c.tc : Thread Cert.ScalesRefIdeal.nD Cert.ScalesRefIdeal.τ).loc Cert.ScalesRefIdeal.main_arg0)
      ∧ r.2.mem ((c.tc : Thread Cert.ScalesRefIdeal.nD Cert.ScalesRefIdeal.τ).loc Cert.ScalesRefIdeal.main_arg1) = m ((c.tc : Thread Cert.ScalesRefIdeal.nD Cert.ScalesRefIdeal.τ).loc Cert.ScalesRefIdeal.main_arg1))
      ∧ r.2.sem = fun _ => 0)

def quiescent_ScalesRefIdeal_pre_maxima_in_range [hScalesRefIdeal : Cert.ScalesRefIdeal.Facts] [hPre_maxima_in_range : Cert.Pre_maxima_in_range.Facts] : Prop :=
  ∀ (m : (ℓ : Loc Cert.ScalesRefIdeal.nD Cert.ScalesRefIdeal.τ Cert.ScalesRefIdeal.sig) → Buf (Elt Ideal) ℓ) (g : Dev Cert.ScalesRefIdeal.nD → PrngReg), Pre_ScalesRefIdeal_maxima_in_range m →
    θ_run (Cert.ScalesRefIdeal.defs (F := Ideal)) (onTc (τ := Cert.ScalesRefIdeal.τ) (Cert.ScalesRefIdeal.main (F := Ideal))) ⟨m, fun _ => 0, g⟩ (fun r => (∀ c : Dev Cert.ScalesRefIdeal.nD,
      r.2.mem ((c.tc : Thread Cert.ScalesRefIdeal.nD Cert.ScalesRefIdeal.τ).loc Cert.ScalesRefIdeal.main_arg0) = m ((c.tc : Thread Cert.ScalesRefIdeal.nD Cert.ScalesRefIdeal.τ).loc Cert.ScalesRefIdeal.main_arg0)
      ∧ r.2.mem ((c.tc : Thread Cert.ScalesRefIdeal.nD Cert.ScalesRefIdeal.τ).loc Cert.ScalesRefIdeal.main_arg1) = m ((c.tc : Thread Cert.ScalesRefIdeal.nD Cert.ScalesRefIdeal.τ).loc Cert.ScalesRefIdeal.main_arg1))
      ∧ r.2.sem = fun _ => 0)

def quiescent_ScalesRef [hScalesRef : Cert.ScalesRef.Facts] : Prop :=
  ∀ (m : (ℓ : Loc Cert.ScalesRef.nD Cert.ScalesRef.τ Cert.ScalesRef.sig) → Buf (Elt Bits) ℓ) (g : Dev Cert.ScalesRef.nD → PrngReg), Pre_ScalesRef m →
    θ_run (Cert.ScalesRef.defs (F := Bits)) (onTc (τ := Cert.ScalesRef.τ) (Cert.ScalesRef.main (F := Bits))) ⟨m, fun _ => 0, g⟩ (fun r => (∀ c : Dev Cert.ScalesRef.nD,
      r.2.mem ((c.tc : Thread Cert.ScalesRef.nD Cert.ScalesRef.τ).loc Cert.ScalesRef.main_arg0) = m ((c.tc : Thread Cert.ScalesRef.nD Cert.ScalesRef.τ).loc Cert.ScalesRef.main_arg0)
      ∧ r.2.mem ((c.tc : Thread Cert.ScalesRef.nD Cert.ScalesRef.τ).loc Cert.ScalesRef.main_arg1) = m ((c.tc : Thread Cert.ScalesRef.nD Cert.ScalesRef.τ).loc Cert.ScalesRef.main_arg1))
      ∧ r.2.sem = fun _ => 0)

def preserves_Kernel_KernelIdeal : Prop :=
  IdealRules.bf16_pair.PackStatement Cert.KernelIdeal.S1024x128
  ∧ IdealRules.bf16_pair.Statement Cert.KernelIdeal.S2048x128 Cert.KernelIdeal.S1024x128

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Scales_ScalesIdeal : Prop :=
  True

def preserves_ScalesRef_ScalesRefIdeal : Prop :=
  True

def algebraic_ScalesIdeal_ScalesRefIdeal_pre_maxima_in_range [hScalesIdeal : Cert.ScalesIdeal.Facts] [hScalesRefIdeal : Cert.ScalesRefIdeal.Facts] [hPre_maxima_in_range : Cert.Pre_maxima_in_range.Facts] : Prop :=
  ∀ (m : (ℓ : Loc Cert.ScalesIdeal.nD Cert.ScalesIdeal.τ Cert.ScalesIdeal.sig) → Buf (Elt Ideal) ℓ) (g : Dev Cert.ScalesIdeal.nD → PrngReg)
    (m' : (ℓ : Loc Cert.ScalesRefIdeal.nD Cert.ScalesRefIdeal.τ Cert.ScalesRefIdeal.sig) → Buf (Elt Ideal) ℓ) (g' : Dev Cert.ScalesRefIdeal.nD → PrngReg), Pre_ScalesIdeal_maxima_in_range m →
    (∀ c : Dev Cert.ScalesIdeal.nD,
      m' ((c.tc : Thread Cert.ScalesRefIdeal.nD Cert.ScalesRefIdeal.τ).loc Cert.ScalesRefIdeal.main_arg0) = m ((c.tc : Thread Cert.ScalesIdeal.nD Cert.ScalesIdeal.τ).loc Cert.ScalesIdeal.main_arg0)
      ∧ m' ((c.tc : Thread Cert.ScalesRefIdeal.nD Cert.ScalesRefIdeal.τ).loc Cert.ScalesRefIdeal.main_arg1) = m ((c.tc : Thread Cert.ScalesIdeal.nD Cert.ScalesIdeal.τ).loc Cert.ScalesIdeal.main_arg1)) →
    ∃ (v0 : (c : Dev Cert.ScalesIdeal.nD) → Buf (Elt Ideal) ((c.tc : Thread Cert.ScalesIdeal.nD Cert.ScalesIdeal.τ).loc Cert.ScalesIdeal.main_v10_1)),
      θ_run (Cert.ScalesIdeal.defs (F := Ideal)) (onTc (τ := Cert.ScalesIdeal.τ) (Cert.ScalesIdeal.main (F := Ideal))) ⟨m, fun _ => 0, g⟩ (fun r => ∀ c : Dev Cert.ScalesIdeal.nD,
          r.2.mem ((c.tc : Thread Cert.ScalesIdeal.nD Cert.ScalesIdeal.τ).loc Cert.ScalesIdeal.main_v10_1) = v0 c
          ∧ r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
          ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1))
      ∧ θ_run (Cert.ScalesRefIdeal.defs (F := Ideal)) (onTc (τ := Cert.ScalesRefIdeal.τ) (Cert.ScalesRefIdeal.main (F := Ideal))) ⟨m', fun _ => 0, g'⟩ (fun r => ∀ c : Dev Cert.ScalesRefIdeal.nD,
          r.2.mem ((c.tc : Thread Cert.ScalesRefIdeal.nD Cert.ScalesRefIdeal.τ).loc Cert.ScalesRefIdeal.main_v21) = v0 c
          ∧ r.2.mem ((c.tc : Thread Cert.ScalesRefIdeal.nD Cert.ScalesRefIdeal.τ).loc Cert.ScalesRefIdeal.main_arg0) = m' ((c.tc : Thread Cert.ScalesRefIdeal.nD Cert.ScalesRefIdeal.τ).loc Cert.ScalesRefIdeal.main_arg0)
          ∧ r.2.mem ((c.tc : Thread Cert.ScalesRefIdeal.nD Cert.ScalesRefIdeal.τ).loc Cert.ScalesRefIdeal.main_arg1) = m' ((c.tc : Thread Cert.ScalesRefIdeal.nD Cert.ScalesRefIdeal.τ).loc Cert.ScalesRefIdeal.main_arg1))

def Claim : Prop :=
  ∃ (hKernel : Cert.Kernel.Facts) (hQuantise : Cert.Quantise.Facts) (hKernelIdeal : Cert.KernelIdeal.Facts) (hReferenceIdeal : Cert.ReferenceIdeal.Facts) (hScales : Cert.Scales.Facts) (hScalesIdeal : Cert.ScalesIdeal.Facts) (hScalesRefIdeal : Cert.ScalesRefIdeal.Facts) (hScalesRef : Cert.ScalesRef.Facts) (hPre_scales_in_range : Cert.Pre_scales_in_range.Facts) (hPre_maxima_in_range : Cert.Pre_maxima_in_range.Facts),
    quiescent_Kernel (hKernel := hKernel)
    ∧ quiescent_Quantise (hQuantise := hQuantise)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ quiescent_Scales (hScales := hScales)
    ∧ quiescent_ScalesIdeal (hScalesIdeal := hScalesIdeal)
    ∧ quiescent_ScalesIdeal_pre_maxima_in_range (hScalesIdeal := hScalesIdeal) (hPre_maxima_in_range := hPre_maxima_in_range)
    ∧ quiescent_ScalesRefIdeal (hScalesRefIdeal := hScalesRefIdeal)
    ∧ quiescent_ScalesRefIdeal_pre_maxima_in_range (hScalesRefIdeal := hScalesRefIdeal) (hPre_maxima_in_range := hPre_maxima_in_range)
    ∧ quiescent_ScalesRef (hScalesRef := hScalesRef)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
    ∧ preserves_Scales_ScalesIdeal
    ∧ preserves_ScalesRef_ScalesRefIdeal
    ∧ algebraic_ScalesIdeal_ScalesRefIdeal_pre_maxima_in_range (hScalesIdeal := hScalesIdeal) (hScalesRefIdeal := hScalesRefIdeal) (hPre_maxima_in_range := hPre_maxima_in_range)
-- ==== Pre_maxima_in_range.lean ====
abbrev S6144x7168 : Shape := ⟨2, ![6144, 7168]⟩
abbrev S32x32 : Shape := ⟨2, ![32, 32]⟩
abbrev S6144x224x32 : Shape := ⟨3, ![6144, 224, 32]⟩
abbrev S_ : Shape := ⟨0, ![]⟩
abbrev S6144x224 : Shape := ⟨2, ![6144, 224]⟩

class Facts : Prop where
  shapeCasts_S6144x7168_S6144x224x32 : S6144x7168.ShapeCasts S6144x224x32
  bcast_S_S6144x224x32 : S_.BroadcastsInDim S6144x224x32 (![] : Fin 0 → Fin S6144x224x32.rank)
  reducesTo_S6144x224x32_S6144x224_d2 : S6144x224x32.ReducesTo [2] S6144x224
  h_S_ : 0 < S_.numel
  bcast_S_S6144x224 : S_.BroadcastsInDim S6144x224 (![] : Fin 0 → Fin S6144x224.rank)
  dot_S6144x224x32_S32x32_S6144x224x32_2_0_01_1_n_n_wf : DotDims.WF S6144x224x32 S32x32 S6144x224x32 [2] [0] [0, 1] [1] [] []

variable [Facts]

def dot_S6144x224x32_S32x32_S6144x224x32_2_0_01_1_n_n : DotDims S6144x224x32 S32x32 S6144x224x32 where
  lhsContracting := [2]
  rhsContracting := [0]
  lhsNonContracting := [0, 1]
  rhsNonContracting := [1]
  lhsBatch := []
  rhsBatch := []
  wf := dot_S6144x224x32_S32x32_S6144x224x32_2_0_01_1_n_n_wf
def fn {F : FTy → Type} [FloatOps F] (main_arg0 : FVec F S6144x7168 .bf16) (main_arg1 : FVec F S32x32 .bf16) : IVec S6144x224 1 :=
  let main_v0 : FVec F S6144x224x32 .bf16 := shapeCast S6144x224x32 main_arg0 shapeCasts_S6144x7168_S6144x224x32
  let main_v1 : FVec F S6144x224x32 .f32 := (fun l r => Host.dotGeneral dot_S6144x224x32_S32x32_S6144x224x32_2_0_01_1_n_n none l r) main_v0 main_arg1
  let main_cst : FVec F S_ .f32 := constant S_ .f32 0x3E3504F3#32
  let main_v2 : FVec F S6144x224x32 .f32 := broadcastInDim S6144x224x32 ![] bcast_S_S6144x224x32 main_cst
  let main_v3 : FVec F S6144x224x32 .f32 := mulf main_v1 main_v2
  let main_v4 : FVec F S6144x224x32 .f32 := Host.absf main_v3
  let main_cst_0 : FVec F S_ .f32 := constant S_ .f32 0xFF800000#32
  let main_v5 : FVec F S6144x224 .f32 := (fun x v => Host.reduce FloatOps.maximumf x v reducesTo_S6144x224x32_S6144x224_d2 h_S_) main_v4 main_cst_0
  let main_cst_1 : FVec F S_ .f32 := constant S_ .f32 0x00000000#32
  let main_v6 : FVec F S6144x224 .f32 := broadcastInDim S6144x224 ![] bcast_S_S6144x224 main_cst_1
  let main_v7 : IVec S6144x224 1 := cmpf .oeq main_v5 main_v6
  let main_cst_2 : FVec F S_ .f32 := constant S_ .f32 0x00800000#32
  let main_v8 : FVec F S6144x224 .f32 := broadcastInDim S6144x224 ![] bcast_S_S6144x224 main_cst_2
  let main_v9 : IVec S6144x224 1 := cmpf .oge main_v5 main_v8
  let main_cst_3 : FVec F S_ .f32 := constant S_ .f32 0x3F000000#32
  let main_v10 : FVec F S6144x224 .f32 := broadcastInDim S6144x224 ![] bcast_S_S6144x224 main_cst_3
  let main_v11 : FVec F S6144x224 .f32 := mulf main_v5 main_v10
  let main_cst_4 : FVec F S_ .f32 := constant S_ .f32 0x7F000000#32
  let main_v12 : FVec F S6144x224 .f32 := broadcastInDim S6144x224 ![] bcast_S_S6144x224 main_cst_4
  let main_v13 : IVec S6144x224 1 := cmpf .olt main_v11 main_v12
  let main_v14 : IVec S6144x224 1 := andi main_v9 main_v13
  let main_v15 : IVec S6144x224 1 := ori main_v7 main_v14
  main_v15
-- ==== Pre_scales_in_range.lean ====
abbrev S6144x7168 : Shape := ⟨2, ![6144, 7168]⟩
abbrev S7168x9216 : Shape := ⟨2, ![7168, 9216]⟩
abbrev S224x18432 : Shape := ⟨2, ![224, 18432]⟩
abbrev S_ : Shape := ⟨0, ![]⟩

class Facts : Prop where
  natLt_8_32 : 8 < 32
  bcast_S_S224x18432 : S_.BroadcastsInDim S224x18432 (![] : Fin 0 → Fin S224x18432.rank)

variable [Facts]

def fn {F : FTy → Type} [FloatOps F] (main_arg0 : FVec F S6144x7168 .bf16) (main_arg1 : IVec S7168x9216 8) (main_arg2 : IVec S224x18432 8) : IVec S224x18432 1 :=
  let main_v0 : IVec S224x18432 32 := (extui 32 · natLt_8_32) main_arg2
  let main_c : IVec S_ 32 := constantI S_ 32 1#32
  let main_v1 : IVec S224x18432 32 := broadcastInDim S224x18432 ![] bcast_S_S224x18432 main_c
  let main_v2 : IVec S224x18432 1 := cmpi .sge main_v0 main_v1
  let main_c_0 : IVec S_ 32 := constantI S_ 32 254#32
  let main_v3 : IVec S224x18432 32 := broadcastInDim S224x18432 ![] bcast_S_S224x18432 main_c_0
  let main_v4 : IVec S224x18432 1 := cmpi .sle main_v0 main_v3
  let main_v5 : IVec S224x18432 1 := andi main_v2 main_v4
  main_v5
-- ==== Kernel.lean ====
abbrev S6144x7168 : Shape := ⟨2, ![6144, 7168]⟩
abbrev S7168x9216 : Shape := ⟨2, ![7168, 9216]⟩
abbrev S224x18432 : Shape := ⟨2, ![224, 18432]⟩
abbrev S6144x18432 : Shape := ⟨2, ![6144, 18432]⟩
abbrev S1024x7168 : Shape := ⟨2, ![1024, 7168]⟩
abbrev S7168x256 : Shape := ⟨2, ![7168, 256]⟩
abbrev S224x512 : Shape := ⟨2, ![224, 512]⟩
abbrev S1024x512 : Shape := ⟨2, ![1024, 512]⟩
abbrev S7168x512 : Shape := ⟨2, ![7168, 512]⟩
abbrev S224x128 : Shape := ⟨2, ![224, 128]⟩
abbrev S224x128x1 : Shape := ⟨3, ![224, 128, 1]⟩
abbrev S32x128 : Shape := ⟨2, ![32, 128]⟩
abbrev S8x128 : Shape := ⟨2, ![8, 128]⟩
abbrev S1x128 : Shape := ⟨2, ![1, 128]⟩
abbrev S1024x128 : Shape := ⟨2, ![1024, 128]⟩
abbrev S1024x128x1 : Shape := ⟨3, ![1024, 128, 1]⟩

abbrev nBuf : Space → Nat
  | .hbm => 4
  | .vmem => 9
  | .smem => 0
  | _ => 0

abbrev bufTy : (tb : Table) → Fin (tcTables nBuf tb) → BufTy
  | .hbm, ⟨0, _⟩ => ⟨S6144x7168, .bf16⟩
  | .hbm, ⟨1, _⟩ => ⟨S7168x9216, .i8⟩
  | .hbm, ⟨2, _⟩ => ⟨S224x18432, .i8⟩
  | .hbm, ⟨3, _⟩ => ⟨S6144x18432, .bf16⟩
  | .local _ .vmem, ⟨0, _⟩ => ⟨S1024x7168, .bf16⟩
  | .local _ .vmem, ⟨1, _⟩ => ⟨S1024x7168, .bf16⟩
  | .local _ .vmem, ⟨2, _⟩ => ⟨S7168x256, .i8⟩
  | .local _ .vmem, ⟨3, _⟩ => ⟨S7168x256, .i8⟩
  | .local _ .vmem, ⟨4, _⟩ => ⟨S224x512, .i8⟩
  | .local _ .vmem, ⟨5, _⟩ => ⟨S224x512, .i8⟩
  | .local _ .vmem, ⟨6, _⟩ => ⟨S1024x512, .bf16⟩
  | .local _ .vmem, ⟨7, _⟩ => ⟨S1024x512, .bf16⟩
  | .local _ .vmem, ⟨8, _⟩ => ⟨S7168x512, .bf16⟩
  | _, _ => ⟨S6144x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨2, ![36, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S7168x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S224x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Quantise.lean ====
abbrev S6144x7168 : Shape := ⟨2, ![6144, 7168]⟩
abbrev S256x256 : Shape := ⟨2, ![256, 256]⟩
abbrev S6144x224 : Shape := ⟨2, ![6144, 224]⟩
abbrev S256x7168 : Shape := ⟨2, ![256, 7168]⟩
abbrev S256x224 : Shape := ⟨2, ![256, 224]⟩
abbrev S16x128 : Shape := ⟨2, ![16, 128]⟩
abbrev S32x128 : Shape := ⟨2, ![32, 128]⟩
abbrev S32x256 : Shape := ⟨2, ![32, 256]⟩
abbrev S16x128x1 : Shape := ⟨3, ![16, 128, 1]⟩
abbrev S8x128 : Shape := ⟨2, ![8, 128]⟩
abbrev S32x224 : Shape := ⟨2, ![32, 224]⟩

abbrev nBuf : Space → Nat
  | .hbm => 5
  | .vmem => 9
  | .smem => 0
  | _ => 0

abbrev bufTy : (tb : Table) → Fin (tcTables nBuf tb) → BufTy
  | .hbm, ⟨0, _⟩ => ⟨S6144x7168, .bf16⟩
  | .hbm, ⟨1, _⟩ => ⟨S256x256, .bf16⟩
  | .hbm, ⟨2, _⟩ => ⟨S6144x7168, .i8⟩
  | .hbm, ⟨3, _⟩ => ⟨S6144x224, .i8⟩
  | .hbm, ⟨4, _⟩ => ⟨S6144x7168, .bf16⟩
  | .local _ .vmem, ⟨0, _⟩ => ⟨S256x7168, .bf16⟩
  | .local _ .vmem, ⟨1, _⟩ => ⟨S256x7168, .bf16⟩
  | .local _ .vmem, ⟨2, _⟩ => ⟨S256x256, .bf16⟩
  | .local _ .vmem, ⟨3, _⟩ => ⟨S256x7168, .i8⟩
  | .local _ .vmem, ⟨4, _⟩ => ⟨S256x7168, .i8⟩
  | .local _ .vmem, ⟨5, _⟩ => ⟨S256x224, .i8⟩
  | .local _ .vmem, ⟨6, _⟩ => ⟨S256x224, .i8⟩
  | .local _ .vmem, ⟨7, _⟩ => ⟨S256x7168, .bf16⟩
  | .local _ .vmem, ⟨8, _⟩ => ⟨S256x7168, .bf16⟩
  | _, _ => ⟨S6144x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![24], ![false]⟩

@[reducible] def k0_t1_loop : Scf.Loop 32 :=
  let c0_i32_16 : BitVec 32 := 0#32
  let c8_i32_17 : BitVec 32 := 8#32
  let v63 : BitVec 32 := Scalar.addi c0_i32_16 c8_i32_17
  let c1_i32_18 : BitVec 32 := 1#32
  ⟨c0_i32_16, v63, c1_i32_18⟩
def k0_mult1 (k0_t1 : Fin k0_t1_loop.trips) : BitVec 32 :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  v66
def k0_off1 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v68 : Index := Scalar.indexCast v67
  let c0 : Index := 0#32
  ![v68.toNat, 0]
def k0_off2 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v168 : Index := Scalar.indexCast v67
  let c0_48 : Index := 0#32
  ![v168.toNat, 0]
def k0_off3 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v220 : Index := Scalar.indexCast v67
  let c128 : Index := 128#32
  ![v220.toNat, 128]
def k0_off4 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v238 : Index := Scalar.indexCast v67
  let c256 : Index := 256#32
  ![v238.toNat, 256]
def k0_off5 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v338 : Index := Scalar.indexCast v67
  let c256_98 : Index := 256#32
  ![v338.toNat, 256]
def k0_off6 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v390 : Index := Scalar.indexCast v67
  let c384 : Index := 384#32
  ![v390.toNat, 384]
def k0_off7 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v435 : Index := Scalar.indexCast v67
  let c512 : Index := 512#32
  ![v435.toNat, 512]
def k0_off8 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v535 : Index := Scalar.indexCast v67
  let c512_159 : Index := 512#32
  ![v535.toNat, 512]
def k0_off9 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v587 : Index := Scalar.indexCast v67
  let c640 : Index := 640#32
  ![v587.toNat, 640]
def k0_off10 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v632 : Index := Scalar.indexCast v67
  let c768 : Index := 768#32
  ![v632.toNat, 768]
def k0_off11 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v732 : Index := Scalar.indexCast v67
  let c768_219 : Index := 768#32
  ![v732.toNat, 768]
def k0_off12 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v784 : Index := Scalar.indexCast v67
  let c896 : Index := 896#32
  ![v784.toNat, 896]
def k0_off13 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v829 : Index := Scalar.indexCast v67
  let c1024 : Index := 1024#32
  ![v829.toNat, 1024]
def k0_off14 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v929 : Index := Scalar.indexCast v67
  let c1024_279 : Index := 1024#32
  ![v929.toNat, 1024]
def k0_off15 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v981 : Index := Scalar.indexCast v67
  let c1152 : Index := 1152#32
  ![v981.toNat, 1152]
def k0_off16 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1026 : Index := Scalar.indexCast v67
  let c1280 : Index := 1280#32
  ![v1026.toNat, 1280]
def k0_off17 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1126 : Index := Scalar.indexCast v67
  let c1280_340 : Index := 1280#32
  ![v1126.toNat, 1280]
def k0_off18 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1178 : Index := Scalar.indexCast v67
  let c1408 : Index := 1408#32
  ![v1178.toNat, 1408]
def k0_off19 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1223 : Index := Scalar.indexCast v67
  let c1536 : Index := 1536#32
  ![v1223.toNat, 1536]
def k0_off20 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1323 : Index := Scalar.indexCast v67
  let c1536_400 : Index := 1536#32
  ![v1323.toNat, 1536]
def k0_off21 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1375 : Index := Scalar.indexCast v67
  let c1664 : Index := 1664#32
  ![v1375.toNat, 1664]
def k0_off22 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1420 : Index := Scalar.indexCast v67
  let c1792 : Index := 1792#32
  ![v1420.toNat, 1792]
def k0_off23 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1520 : Index := Scalar.indexCast v67
  let c1792_460 : Index := 1792#32
  ![v1520.toNat, 1792]
def k0_off24 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1572 : Index := Scalar.indexCast v67
  let c1920 : Index := 1920#32
  ![v1572.toNat, 1920]
def k0_off25 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1617 : Index := Scalar.indexCast v67
  let c2048 : Index := 2048#32
  ![v1617.toNat, 2048]
def k0_off26 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1717 : Index := Scalar.indexCast v67
  let c2048_520 : Index := 2048#32
  ![v1717.toNat, 2048]
def k0_off27 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1769 : Index := Scalar.indexCast v67
  let c2176 : Index := 2176#32
  ![v1769.toNat, 2176]
def k0_off28 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1814 : Index := Scalar.indexCast v67
  let c2304 : Index := 2304#32
  ![v1814.toNat, 2304]
def k0_off29 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1914 : Index := Scalar.indexCast v67
  let c2304_581 : Index := 2304#32
  ![v1914.toNat, 2304]
def k0_off30 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1966 : Index := Scalar.indexCast v67
  let c2432 : Index := 2432#32
  ![v1966.toNat, 2432]
def k0_off31 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2011 : Index := Scalar.indexCast v67
  let c2560 : Index := 2560#32
  ![v2011.toNat, 2560]
def k0_off32 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2111 : Index := Scalar.indexCast v67
  let c2560_641 : Index := 2560#32
  ![v2111.toNat, 2560]
def k0_off33 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2163 : Index := Scalar.indexCast v67
  let c2688 : Index := 2688#32
  ![v2163.toNat, 2688]
def k0_off34 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2208 : Index := Scalar.indexCast v67
  let c2816 : Index := 2816#32
  ![v2208.toNat, 2816]
def k0_off35 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2308 : Index := Scalar.indexCast v67
  let c2816_701 : Index := 2816#32
  ![v2308.toNat, 2816]
def k0_off36 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2360 : Index := Scalar.indexCast v67
  let c2944 : Index := 2944#32
  ![v2360.toNat, 2944]
def k0_off37 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2405 : Index := Scalar.indexCast v67
  let c3072 : Index := 3072#32
  ![v2405.toNat, 3072]
def k0_off38 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2505 : Index := Scalar.indexCast v67
  let c3072_761 : Index := 3072#32
  ![v2505.toNat, 3072]
def k0_off39 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2557 : Index := Scalar.indexCast v67
  let c3200 : Index := 3200#32
  ![v2557.toNat, 3200]
def k0_off40 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2602 : Index := Scalar.indexCast v67
  let c3328 : Index := 3328#32
  ![v2602.toNat, 3328]
def k0_off41 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2702 : Index := Scalar.indexCast v67
  let c3328_821 : Index := 3328#32
  ![v2702.toNat, 3328]
def k0_off42 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2754 : Index := Scalar.indexCast v67
  let c3456 : Index := 3456#32
  ![v2754.toNat, 3456]
def k0_off43 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2799 : Index := Scalar.indexCast v67
  let c3584 : Index := 3584#32
  ![v2799.toNat, 3584]
def k0_off44 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2899 : Index := Scalar.indexCast v67
  let c3584_881 : Index := 3584#32
  ![v2899.toNat, 3584]
def k0_off45 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2951 : Index := Scalar.indexCast v67
  let c3712 : Index := 3712#32
  ![v2951.toNat, 3712]
def k0_off46 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2996 : Index := Scalar.indexCast v67
  let c3840 : Index := 3840#32
  ![v2996.toNat, 3840]
def k0_off47 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3096 : Index := Scalar.indexCast v67
  let c3840_941 : Index := 3840#32
  ![v3096.toNat, 3840]
def k0_off48 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3148 : Index := Scalar.indexCast v67
  let c3968 : Index := 3968#32
  ![v3148.toNat, 3968]
def k0_off49 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3193 : Index := Scalar.indexCast v67
  let c4096 : Index := 4096#32
  ![v3193.toNat, 4096]
def k0_off50 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3293 : Index := Scalar.indexCast v67
  let c4096_1001 : Index := 4096#32
  ![v3293.toNat, 4096]
def k0_off51 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3345 : Index := Scalar.indexCast v67
  let c4224 : Index := 4224#32
  ![v3345.toNat, 4224]
def k0_off52 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3363 : Index := Scalar.indexCast v67
  let c4352 : Index := 4352#32
  ![v3363.toNat, 4352]
def k0_off53 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3463 : Index := Scalar.indexCast v67
  let c4352_1054 : Index := 4352#32
  ![v3463.toNat, 4352]
def k0_off54 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3515 : Index := Scalar.indexCast v67
  let c4480 : Index := 4480#32
  ![v3515.toNat, 4480]
def k0_off55 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3560 : Index := Scalar.indexCast v67
  let c4608 : Index := 4608#32
  ![v3560.toNat, 4608]
def k0_off56 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3660 : Index := Scalar.indexCast v67
  let c4608_1115 : Index := 4608#32
  ![v3660.toNat, 4608]
def k0_off57 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3712 : Index := Scalar.indexCast v67
  let c4736 : Index := 4736#32
  ![v3712.toNat, 4736]
def k0_off58 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3757 : Index := Scalar.indexCast v67
  let c4864 : Index := 4864#32
  ![v3757.toNat, 4864]
def k0_off59 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3857 : Index := Scalar.indexCast v67
  let c4864_1176 : Index := 4864#32
  ![v3857.toNat, 4864]
def k0_off60 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3909 : Index := Scalar.indexCast v67
  let c4992 : Index := 4992#32
  ![v3909.toNat, 4992]
def k0_off61 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3954 : Index := Scalar.indexCast v67
  let c5120 : Index := 5120#32
  ![v3954.toNat, 5120]
def k0_off62 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4054 : Index := Scalar.indexCast v67
  let c5120_1237 : Index := 5120#32
  ![v4054.toNat, 5120]
def k0_off63 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4106 : Index := Scalar.indexCast v67
  let c5248 : Index := 5248#32
  ![v4106.toNat, 5248]
def k0_off64 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4151 : Index := Scalar.indexCast v67
  let c5376 : Index := 5376#32
  ![v4151.toNat, 5376]
def k0_off65 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4251 : Index := Scalar.indexCast v67
  let c5376_1298 : Index := 5376#32
  ![v4251.toNat, 5376]
def k0_off66 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4303 : Index := Scalar.indexCast v67
  let c5504 : Index := 5504#32
  ![v4303.toNat, 5504]
def k0_off67 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4348 : Index := Scalar.indexCast v67
  let c5632 : Index := 5632#32
  ![v4348.toNat, 5632]
def k0_off68 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4448 : Index := Scalar.indexCast v67
  let c5632_1359 : Index := 5632#32
  ![v4448.toNat, 5632]
def k0_off69 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4500 : Index := Scalar.indexCast v67
  let c5760 : Index := 5760#32
  ![v4500.toNat, 5760]
def k0_off70 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4545 : Index := Scalar.indexCast v67
  let c5888 : Index := 5888#32
  ![v4545.toNat, 5888]
def k0_off71 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4645 : Index := Scalar.indexCast v67
  let c5888_1420 : Index := 5888#32
  ![v4645.toNat, 5888]
def k0_off72 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4697 : Index := Scalar.indexCast v67
  let c6016 : Index := 6016#32
  ![v4697.toNat, 6016]
def k0_off73 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4742 : Index := Scalar.indexCast v67
  let c6144 : Index := 6144#32
  ![v4742.toNat, 6144]
def k0_off74 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4842 : Index := Scalar.indexCast v67
  let c6144_1481 : Index := 6144#32
  ![v4842.toNat, 6144]
def k0_off75 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4894 : Index := Scalar.indexCast v67
  let c6272 : Index := 6272#32
  ![v4894.toNat, 6272]
def k0_off76 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4939 : Index := Scalar.indexCast v67
  let c6400 : Index := 6400#32
  ![v4939.toNat, 6400]
def k0_off77 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v5039 : Index := Scalar.indexCast v67
  let c6400_1542 : Index := 6400#32
  ![v5039.toNat, 6400]
def k0_off78 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v5091 : Index := Scalar.indexCast v67
  let c6528 : Index := 6528#32
  ![v5091.toNat, 6528]
def k0_off79 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v5136 : Index := Scalar.indexCast v67
  let c6656 : Index := 6656#32
  ![v5136.toNat, 6656]
def k0_off80 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v5236 : Index := Scalar.indexCast v67
  let c6656_1603 : Index := 6656#32
  ![v5236.toNat, 6656]
def k0_off81 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v5288 : Index := Scalar.indexCast v67
  let c6784 : Index := 6784#32
  ![v5288.toNat, 6784]
def k0_off82 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v5333 : Index := Scalar.indexCast v67
  let c6912 : Index := 6912#32
  ![v5333.toNat, 6912]
def k0_off83 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v5433 : Index := Scalar.indexCast v67
  let c6912_1664 : Index := 6912#32
  ![v5433.toNat, 6912]
def k0_off84 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v5485 : Index := Scalar.indexCast v67
  let c7040 : Index := 7040#32
  ![v5485.toNat, 7040]
def k0_off85 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v5545 : Index := Scalar.indexCast v67
  let c0_1697 : Index := 0#32
  ![v5545.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x7168 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x224 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S2048x128 : Shape := ⟨2, ![2048, 128]⟩
variable {F : FTy → Type} [FloatOps F]
-- ==== ReferenceIdeal.lean ====
abbrev S6144x7168 : Shape := ⟨2, ![6144, 7168]⟩
abbrev S7168x9216 : Shape := ⟨2, ![7168, 9216]⟩
abbrev S224x18432 : Shape := ⟨2, ![224, 18432]⟩
abbrev S_ : Shape := ⟨0, ![]⟩
abbrev S224x9216 : Shape := ⟨2, ![224, 9216]⟩
abbrev S224x32x9216 : Shape := ⟨3, ![224, 32, 9216]⟩
abbrev S224x1x9216 : Shape := ⟨3, ![224, 1, 9216]⟩
abbrev S6144x9216 : Shape := ⟨2, ![6144, 9216]⟩
abbrev S6144x9216x1 : Shape := ⟨3, ![6144, 9216, 1]⟩
abbrev S6144x9216x2 : Shape := ⟨3, ![6144, 9216, 2]⟩
abbrev S6144x18432 : Shape := ⟨2, ![6144, 18432]⟩

abbrev nBuf : Space → Nat
  | .hbm => 165
  | .vmem => 0
  | .smem => 0
  | _ => 0

abbrev hbmTy0_0 (i : Nat) : BufTy := match i % 128 with
  | 0 => ⟨S6144x7168, .bf16⟩
  | 1 => ⟨S7168x9216, .i8⟩
  | 2 => ⟨S224x18432, .i8⟩
  | 3 => ⟨S7168x9216, .i32⟩
  | 4 => ⟨S_, .i32⟩
  | 5 => ⟨S7168x9216, .i32⟩
  | 6 => ⟨S7168x9216, .i32⟩
  | 7 => ⟨S_, .i32⟩
  | 8 => ⟨S7168x9216, .i32⟩
  | 9 => ⟨S7168x9216, .i32⟩
  | 10 => ⟨S224x9216, .i8⟩
  | 11 => ⟨S224x9216, .i32⟩
  | 12 => ⟨S_, .i32⟩
  | 13 => ⟨S224x9216, .i32⟩
  | 14 => ⟨S224x9216, .i32⟩
  | 15 => ⟨S224x9216, .f32⟩
  | 16 => ⟨S_, .f32⟩
  | 17 => ⟨S224x9216, .f32⟩
  | 18 => ⟨S224x9216, .f32⟩
  | 19 => ⟨S224x9216, .i8⟩
  | 20 => ⟨S224x9216, .i32⟩
  | 21 => ⟨S_, .i32⟩
  | 22 => ⟨S224x9216, .i32⟩
  | 23 => ⟨S224x9216, .i32⟩
  | 24 => ⟨S224x9216, .f32⟩
  | 25 => ⟨S_, .f32⟩
  | 26 => ⟨S224x9216, .f32⟩
  | 27 => ⟨S224x9216, .f32⟩
  | 28 => ⟨S_, .i32⟩
  | 29 => ⟨S7168x9216, .i32⟩
  | 30 => ⟨S7168x9216, .i32⟩
  | 31 => ⟨S_, .i32⟩
  | 32 => ⟨S7168x9216, .i32⟩
  | 33 => ⟨S7168x9216, .i1⟩
  | 34 => ⟨S_, .i32⟩
  | 35 => ⟨S7168x9216, .i32⟩
  | 36 => ⟨S7168x9216, .i32⟩
  | 37 => ⟨S_, .i32⟩
  | 38 => ⟨S7168x9216, .i32⟩
  | 39 => ⟨S7168x9216, .i32⟩
  | 40 => ⟨S_, .i32⟩
  | 41 => ⟨S7168x9216, .i32⟩
  | 42 => ⟨S7168x9216, .i1⟩
  | 43 => ⟨S_, .i32⟩
  | 44 => ⟨S7168x9216, .i32⟩
  | 45 => ⟨S7168x9216, .i32⟩
  | 46 => ⟨S_, .i32⟩
  | 47 => ⟨S7168x9216, .i32⟩
  | 48 => ⟨S7168x9216, .i32⟩
  | 49 => ⟨S_, .i32⟩
  | 50 => ⟨S7168x9216, .i32⟩
  | 51 => ⟨S7168x9216, .i1⟩
  | 52 => ⟨S_, .i32⟩
  | 53 => ⟨S7168x9216, .i32⟩
  | 54 => ⟨S7168x9216, .i32⟩
  | 55 => ⟨S_, .i32⟩
  | 56 => ⟨S7168x9216, .i32⟩
  | 57 => ⟨S7168x9216, .i32⟩
  | 58 => ⟨S_, .i32⟩
  | 59 => ⟨S7168x9216, .i32⟩
  | 60 => ⟨S7168x9216, .i1⟩
  | 61 => ⟨S_, .f32⟩
  | 62 => ⟨S_, .f32⟩
  | 63 => ⟨S7168x9216, .f32⟩
  | 64 => ⟨S7168x9216, .f32⟩
  | 65 => ⟨S7168x9216, .f32⟩
  | 66 => ⟨S_, .f32⟩
  | 67 => ⟨S_, .f32⟩
  | 68 => ⟨S7168x9216, .f32⟩
  | 69 => ⟨S7168x9216, .f32⟩
  | 70 => ⟨S7168x9216, .f32⟩
  | 71 => ⟨S7168x9216, .f32⟩
  | 72 => ⟨S_, .f32⟩
  | 73 => ⟨S_, .f32⟩
  | 74 => ⟨S7168x9216, .f32⟩
  | 75 => ⟨S7168x9216, .f32⟩
  | 76 => ⟨S7168x9216, .f32⟩
  | 77 => ⟨S_, .f32⟩
  | 78 => ⟨S_, .f32⟩
  | 79 => ⟨S7168x9216, .f32⟩
  | 80 => ⟨S7168x9216, .f32⟩
  | 81 => ⟨S7168x9216, .f32⟩
  | 82 => ⟨S7168x9216, .f32⟩
  | 83 => ⟨S7168x9216, .f32⟩
  | 84 => ⟨S7168x9216, .f32⟩
  | 85 => ⟨S7168x9216, .f32⟩
  | 86 => ⟨S7168x9216, .f32⟩
  | 87 => ⟨S224x32x9216, .f32⟩
  | 88 => ⟨S224x1x9216, .f32⟩
  | 89 => ⟨S224x32x9216, .f32⟩
  | 90 => ⟨S224x32x9216, .f32⟩
  | 91 => ⟨S7168x9216, .f32⟩
  | 92 => ⟨S7168x9216, .bf16⟩
  | 93 => ⟨S_, .i32⟩
  | 94 => ⟨S7168x9216, .i32⟩
  | 95 => ⟨S7168x9216, .i32⟩
  | 96 => ⟨S_, .i32⟩
  | 97 => ⟨S7168x9216, .i32⟩
  | 98 => ⟨S7168x9216, .i1⟩
  | 99 => ⟨S_, .i32⟩
  | 100 => ⟨S7168x9216, .i32⟩
  | 101 => ⟨S7168x9216, .i32⟩
  | 102 => ⟨S_, .i32⟩
  | 103 => ⟨S7168x9216, .i32⟩
  | 104 => ⟨S7168x9216, .i32⟩
  | 105 => ⟨S_, .i32⟩
  | 106 => ⟨S7168x9216, .i32⟩
  | 107 => ⟨S7168x9216, .i1⟩
  | 108 => ⟨S_, .i32⟩
  | 109 => ⟨S7168x9216, .i32⟩
  | 110 => ⟨S7168x9216, .i32⟩
  | 111 => ⟨S_, .i32⟩
  | 112 => ⟨S7168x9216, .i32⟩
  | 113 => ⟨S7168x9216, .i32⟩
  | 114 => ⟨S_, .i32⟩
  | 115 => ⟨S7168x9216, .i32⟩
  | 116 => ⟨S7168x9216, .i1⟩
  | 117 => ⟨S_, .i32⟩
  | 118 => ⟨S7168x9216, .i32⟩
  | 119 => ⟨S7168x9216, .i32⟩
  | 120 => ⟨S_, .i32⟩
  | 121 => ⟨S7168x9216, .i32⟩
  | 122 => ⟨S7168x9216, .i32⟩
  | 123 => ⟨S_, .i32⟩
  | 124 => ⟨S7168x9216, .i32⟩
  | 125 => ⟨S7168x9216, .i1⟩
  | 126 => ⟨S_, .f32⟩
  | 127 => ⟨S_, .f32⟩
  | _ => ⟨S6144x7168, .bf16⟩

abbrev hbmTy0_1 (i : Nat) : BufTy := match i % 128 with
  | 0 => ⟨S7168x9216, .f32⟩
  | 1 => ⟨S7168x9216, .f32⟩
  | 2 => ⟨S7168x9216, .f32⟩
  | 3 => ⟨S_, .f32⟩
  | 4 => ⟨S_, .f32⟩
  | 5 => ⟨S7168x9216, .f32⟩
  | 6 => ⟨S7168x9216, .f32⟩
  | 7 => ⟨S7168x9216, .f32⟩
  | 8 => ⟨S7168x9216, .f32⟩
  | 9 => ⟨S_, .f32⟩
  | 10 => ⟨S_, .f32⟩
  | 11 => ⟨S7168x9216, .f32⟩
  | 12 => ⟨S7168x9216, .f32⟩
  | 13 => ⟨S7168x9216, .f32⟩
  | 14 => ⟨S_, .f32⟩
  | 15 => ⟨S_, .f32⟩
  | 16 => ⟨S7168x9216, .f32⟩
  | 17 => ⟨S7168x9216, .f32⟩
  | 18 => ⟨S7168x9216, .f32⟩
  | 19 => ⟨S7168x9216, .f32⟩
  | 20 => ⟨S7168x9216, .f32⟩
  | 21 => ⟨S7168x9216, .f32⟩
  | 22 => ⟨S7168x9216, .f32⟩
  | 23 => ⟨S7168x9216, .f32⟩
  | 24 => ⟨S224x32x9216, .f32⟩
  | 25 => ⟨S224x1x9216, .f32⟩
  | 26 => ⟨S224x32x9216, .f32⟩
  | 27 => ⟨S224x32x9216, .f32⟩
  | 28 => ⟨S7168x9216, .f32⟩
  | 29 => ⟨S7168x9216, .bf16⟩
  | 30 => ⟨S6144x9216, .f32⟩
  | 31 => ⟨S6144x9216, .f32⟩
  | 32 => ⟨S6144x9216x1, .f32⟩
  | 33 => ⟨S6144x9216x1, .f32⟩
  | 34 => ⟨S6144x9216x2, .f32⟩
  | 35 => ⟨S6144x18432, .f32⟩
  | 36 => ⟨S6144x18432, .bf16⟩
  | _ => ⟨S6144x7168, .bf16⟩

abbrev hbmTy (i : Nat) : BufTy := match i / 128 with
  | 0 => hbmTy0_0 i
  | 1 => hbmTy0_1 i
  | _ => ⟨S6144x7168, .bf16⟩

abbrev bufTy : (tb : Table) → Fin (tcTables nBuf tb) → BufTy
  | .hbm, ⟨i, _⟩ => hbmTy i
  | _, _ => ⟨S6144x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_c_7 : Ref sig .tc := ⟨.hbm, 37, rfl⟩
abbrev main_v25 : Ref sig .tc := ⟨.hbm, 38, rfl⟩
abbrev main_v26 : Ref sig .tc := ⟨.hbm, 39, rfl⟩
abbrev main_c_8 : Ref sig .tc := ⟨.hbm, 40, rfl⟩
abbrev main_v27 : Ref sig .tc := ⟨.hbm, 41, rfl⟩
abbrev main_v28 : Ref sig .tc := ⟨.hbm, 42, rfl⟩
abbrev main_c_9 : Ref sig .tc := ⟨.hbm, 43, rfl⟩
abbrev main_v29 : Ref sig .tc := ⟨.hbm, 44, rfl⟩
abbrev main_v30 : Ref sig .tc := ⟨.hbm, 45, rfl⟩
abbrev main_c_10 : Ref sig .tc := ⟨.hbm, 46, rfl⟩
abbrev main_v31 : Ref sig .tc := ⟨.hbm, 47, rfl⟩
abbrev main_v32 : Ref sig .tc := ⟨.hbm, 48, rfl⟩
abbrev main_c_11 : Ref sig .tc := ⟨.hbm, 49, rfl⟩
abbrev main_v33 : Ref sig .tc := ⟨.hbm, 50, rfl⟩
abbrev main_v34 : Ref sig .tc := ⟨.hbm, 51, rfl⟩
abbrev main_c_12 : Ref sig .tc := ⟨.hbm, 52, rfl⟩
abbrev main_v35 : Ref sig .tc := ⟨.hbm, 53, rfl⟩
abbrev main_v36 : Ref sig .tc := ⟨.hbm, 54, rfl⟩
abbrev main_c_13 : Ref sig .tc := ⟨.hbm, 55, rfl⟩
abbrev main_v37 : Ref sig .tc := ⟨.hbm, 56, rfl⟩
abbrev main_v38 : Ref sig .tc := ⟨.hbm, 57, rfl⟩
abbrev main_c_14 : Ref sig .tc := ⟨.hbm, 58, rfl⟩
abbrev main_v39 : Ref sig .tc := ⟨.hbm, 59, rfl⟩
abbrev main_v40 : Ref sig .tc := ⟨.hbm, 60, rfl⟩
abbrev main_cst_15 : Ref sig .tc := ⟨.hbm, 61, rfl⟩
abbrev main_cst_16 : Ref sig .tc := ⟨.hbm, 62, rfl⟩
abbrev main_call0_v0 : Ref sig .tc := ⟨.hbm, 63, rfl⟩
abbrev main_call0_v1 : Ref sig .tc := ⟨.hbm, 64, rfl⟩
abbrev main_v41 : Ref sig .tc := ⟨.hbm, 65, rfl⟩
abbrev main_cst_17 : Ref sig .tc := ⟨.hbm, 66, rfl⟩
abbrev main_cst_18 : Ref sig .tc := ⟨.hbm, 67, rfl⟩
abbrev main_call1_v0 : Ref sig .tc := ⟨.hbm, 68, rfl⟩
abbrev main_call1_v1 : Ref sig .tc := ⟨.hbm, 69, rfl⟩
abbrev main_v42 : Ref sig .tc := ⟨.hbm, 70, rfl⟩
abbrev main_v43 : Ref sig .tc := ⟨.hbm, 71, rfl⟩
abbrev main_cst_19 : Ref sig .tc := ⟨.hbm, 72, rfl⟩
abbrev main_cst_20 : Ref sig .tc := ⟨.hbm, 73, rfl⟩
abbrev main_call3_v0 : Ref sig .tc := ⟨.hbm, 74, rfl⟩
abbrev main_call3_v1 : Ref sig .tc := ⟨.hbm, 75, rfl⟩
abbrev main_v44 : Ref sig .tc := ⟨.hbm, 76, rfl⟩
abbrev main_cst_21 : Ref sig .tc := ⟨.hbm, 77, rfl⟩
abbrev main_cst_22 : Ref sig .tc := ⟨.hbm, 78, rfl⟩
abbrev main_call4_v0 : Ref sig .tc := ⟨.hbm, 79, rfl⟩
abbrev main_call4_v1 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_c_23 : Ref sig .tc := ⟨.hbm, 93, rfl⟩
abbrev main_v57 : Ref sig .tc := ⟨.hbm, 94, rfl⟩
abbrev main_v58 : Ref sig .tc := ⟨.hbm, 95, rfl⟩
abbrev main_c_24 : Ref sig .tc := ⟨.hbm, 96, rfl⟩
abbrev main_v59 : Ref sig .tc := ⟨.hbm, 97, rfl⟩
abbrev main_v60 : Ref sig .tc := ⟨.hbm, 98, rfl⟩
abbrev main_c_25 : Ref sig .tc := ⟨.hbm, 99, rfl⟩
abbrev main_v61 : Ref sig .tc := ⟨.hbm, 100, rfl⟩
abbrev main_v62 : Ref sig .tc := ⟨.hbm, 101, rfl⟩
abbrev main_c_26 : Ref sig .tc := ⟨.hbm, 102, rfl⟩
abbrev main_v63 : Ref sig .tc := ⟨.hbm, 103, rfl⟩
abbrev main_v64 : Ref sig .tc := ⟨.hbm, 104, rfl⟩
abbrev main_c_27 : Ref sig .tc := ⟨.hbm, 105, rfl⟩
abbrev main_v65 : Ref sig .tc := ⟨.hbm, 106, rfl⟩
abbrev main_v66 : Ref sig .tc := ⟨.hbm, 107, rfl⟩
abbrev main_c_28 : Ref sig .tc := ⟨.hbm, 108, rfl⟩
abbrev main_v67 : Ref sig .tc := ⟨.hbm, 109, rfl⟩
abbrev main_v68 : Ref sig .tc := ⟨.hbm, 110, rfl⟩
abbrev main_c_29 : Ref sig .tc := ⟨.hbm, 111, rfl⟩
abbrev main_v69 : Ref sig .tc := ⟨.hbm, 112, rfl⟩
abbrev main_v70 : Ref sig .tc := ⟨.hbm, 113, rfl⟩
abbrev main_c_30 : Ref sig .tc := ⟨.hbm, 114, rfl⟩
abbrev main_v71 : Ref sig .tc := ⟨.hbm, 115, rfl⟩
abbrev main_v72 : Ref sig .tc := ⟨.hbm, 116, rfl⟩
abbrev main_c_31 : Ref sig .tc := ⟨.hbm, 117, rfl⟩
abbrev main_v73 : Ref sig .tc := ⟨.hbm, 118, rfl⟩
abbrev main_v74 : Ref sig .tc := ⟨.hbm, 119, rfl⟩
abbrev main_c_32 : Ref sig .tc := ⟨.hbm, 120, rfl⟩
abbrev main_v75 : Ref sig .tc := ⟨.hbm, 121, rfl⟩
abbrev main_v76 : Ref sig .tc := ⟨.hbm, 122, rfl⟩
abbrev main_c_33 : Ref sig .tc := ⟨.hbm, 123, rfl⟩
abbrev main_v77 : Ref sig .tc := ⟨.hbm, 124, rfl⟩
abbrev main_v78 : Ref sig .tc := ⟨.hbm, 125, rfl⟩
abbrev main_cst_34 : Ref sig .tc := ⟨.hbm, 126, rfl⟩
abbrev main_cst_35 : Ref sig .tc := ⟨.hbm, 127, rfl⟩
abbrev main_call8_v0 : Ref sig .tc := ⟨.hbm, 128, rfl⟩
abbrev main_call8_v1 : Ref sig .tc := ⟨.hbm, 129, rfl⟩
abbrev main_v79 : Ref sig .tc := ⟨.hbm, 130, rfl⟩
abbrev main_cst_36 : Ref sig .tc := ⟨.hbm, 131, rfl⟩
abbrev main_cst_37 : Ref sig .tc := ⟨.hbm, 132, rfl⟩
abbrev main_call9_v0 : Ref sig .tc := ⟨.hbm, 133, rfl⟩
abbrev main_call9_v1 : Ref sig .tc := ⟨.hbm, 134, rfl⟩
abbrev main_v80 : Ref sig .tc := ⟨.hbm, 135, rfl⟩
abbrev main_v81 : Ref sig .tc := ⟨.hbm, 136, rfl⟩
abbrev main_cst_38 : Ref sig .tc := ⟨.hbm, 137, rfl⟩
abbrev main_cst_39 : Ref sig .tc := ⟨.hbm, 138, rfl⟩
abbrev main_call11_v0 : Ref sig .tc := ⟨.hbm, 139, rfl⟩
abbrev main_call11_v1 : Ref sig .tc := ⟨.hbm, 140, rfl⟩
abbrev main_v82 : Ref sig .tc := ⟨.hbm, 141, rfl⟩
abbrev main_cst_40 : Ref sig .tc := ⟨.hbm, 142, rfl⟩
abbrev main_cst_41 : Ref sig .tc := ⟨.hbm, 143, rfl⟩
abbrev main_call12_v0 : Ref sig .tc := ⟨.hbm, 144, rfl⟩
abbrev main_call12_v1 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩

abbrev nD : Nat := 1
abbrev τ : Topo := Topo.v7x

variable {F : FTy → Type} [FloatOps F]
-- ==== Scales.lean ====
abbrev S6144x7168 : Shape := ⟨2, ![6144, 7168]⟩
abbrev S32x32 : Shape := ⟨2, ![32, 32]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S8x1x1x8 : Shape := ⟨4, ![8, 1, 1, 8]⟩
abbrev S1x32x32x1 : Shape := ⟨4, ![1, 32, 32, 1]⟩
abbrev S_ : Shape := ⟨0, ![]⟩
abbrev S8x32x32x8 : Shape := ⟨4, ![8, 32, 32, 8]⟩
abbrev S256x256 : Shape := ⟨2, ![256, 256]⟩
abbrev S6144x224 : Shape := ⟨2, ![6144, 224]⟩
abbrev S256x7168 : Shape := ⟨2, ![256, 7168]⟩
abbrev S256x224 : Shape := ⟨2, ![256, 224]⟩
abbrev S32x128 : Shape := ⟨2, ![32, 128]⟩
abbrev S32x256 : Shape := ⟨2, ![32, 256]⟩
abbrev S32x128x1 : Shape := ⟨3, ![32, 128, 1]⟩
abbrev S8x128 : Shape := ⟨2, ![8, 128]⟩
abbrev S32x224 : Shape := ⟨2, ![32, 224]⟩

abbrev nBuf : Space → Nat
  | .hbm => 19
  | .vmem => 9
  | .smem => 0
  | _ => 0

abbrev bufTy : (tb : Table) → Fin (tcTables nBuf tb) → BufTy
  | .hbm, ⟨0, _⟩ => ⟨S6144x7168, .bf16⟩
  | .hbm, ⟨1, _⟩ => ⟨S32x32, .bf16⟩
  | .hbm, ⟨2, _⟩ => ⟨S8, .i32⟩
  | .hbm, ⟨3, _⟩ => ⟨S8x1, .i32⟩
  | .hbm, ⟨4, _⟩ => ⟨S1x8, .i32⟩
  | .hbm, ⟨5, _⟩ => ⟨S8x8, .i32⟩
  | .hbm, ⟨6, _⟩ => ⟨S8x8, .i32⟩
  | .hbm, ⟨7, _⟩ => ⟨S8x8, .i1⟩
  | .hbm, ⟨8, _⟩ => ⟨S8x1x1x8, .i1⟩
  | .hbm, ⟨9, _⟩ => ⟨S1x32x32x1, .bf16⟩
  | .hbm, ⟨10, _⟩ => ⟨S_, .bf16⟩
  | .hbm, ⟨11, _⟩ => ⟨S8x32x32x8, .i1⟩
  | .hbm, ⟨12, _⟩ => ⟨S8x32x32x8, .bf16⟩
  | .hbm, ⟨13, _⟩ => ⟨S8x32x32x8, .bf16⟩
  | .hbm, ⟨14, _⟩ => ⟨S8x32x32x8, .bf16⟩
  | .hbm, ⟨15, _⟩ => ⟨S256x256, .bf16⟩
  | .hbm, ⟨16, _⟩ => ⟨S6144x7168, .i8⟩
  | .hbm, ⟨17, _⟩ => ⟨S6144x224, .i8⟩
  | .hbm, ⟨18, _⟩ => ⟨S6144x7168, .bf16⟩
  | .local _ .vmem, ⟨0, _⟩ => ⟨S256x7168, .bf16⟩
  | .local _ .vmem, ⟨1, _⟩ => ⟨S256x7168, .bf16⟩
  | .local _ .vmem, ⟨2, _⟩ => ⟨S256x256, .bf16⟩
  | .local _ .vmem, ⟨3, _⟩ => ⟨S256x7168, .i8⟩
  | .local _ .vmem, ⟨4, _⟩ => ⟨S256x7168, .i8⟩
  | .local _ .vmem, ⟨5, _⟩ => ⟨S256x224, .i8⟩
  | .local _ .vmem, ⟨6, _⟩ => ⟨S256x224, .i8⟩
  | .local _ .vmem, ⟨7, _⟩ => ⟨S256x7168, .bf16⟩
  | .local _ .vmem, ⟨8, _⟩ => ⟨S256x7168, .bf16⟩
  | _, _ => ⟨S6144x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32_16 : BitVec 32 := 0#32
  let c8_i32_17 : BitVec 32 := 8#32
  let v63 : BitVec 32 := Scalar.addi c0_i32_16 c8_i32_17
  let c1_i32_18 : BitVec 32 := 1#32
  ⟨c0_i32_16, v63, c1_i32_18⟩
def k0_mult1 (k0_t1 : Fin k0_t1_loop.trips) : BitVec 32 :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  v66
def k0_off1 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v68 : Index := Scalar.indexCast v67
  let c0 : Index := 0#32
  ![v68.toNat, 0]
def k0_off2 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v387 : Index := Scalar.indexCast v67
  let c0_121 : Index := 0#32
  ![v387.toNat, 0]
def k0_off3 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v466 : Index := Scalar.indexCast v67
  let c128 : Index := 128#32
  ![v466.toNat, 128]
def k0_off4 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v511 : Index := Scalar.indexCast v67
  let c256 : Index := 256#32
  ![v511.toNat, 256]
def k0_off5 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v830 : Index := Scalar.indexCast v67
  let c256_269 : Index := 256#32
  ![v830.toNat, 256]
def k0_off6 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v909 : Index := Scalar.indexCast v67
  let c384 : Index := 384#32
  ![v909.toNat, 384]
def k0_off7 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v981 : Index := Scalar.indexCast v67
  let c512 : Index := 512#32
  ![v981.toNat, 512]
def k0_off8 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1300 : Index := Scalar.indexCast v67
  let c512_427 : Index := 512#32
  ![v1300.toNat, 512]
def k0_off9 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1379 : Index := Scalar.indexCast v67
  let c640 : Index := 640#32
  ![v1379.toNat, 640]
def k0_off10 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1451 : Index := Scalar.indexCast v67
  let c768 : Index := 768#32
  ![v1451.toNat, 768]
def k0_off11 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1770 : Index := Scalar.indexCast v67
  let c768_585 : Index := 768#32
  ![v1770.toNat, 768]
def k0_off12 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1849 : Index := Scalar.indexCast v67
  let c896 : Index := 896#32
  ![v1849.toNat, 896]
def k0_off13 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v1921 : Index := Scalar.indexCast v67
  let c1024 : Index := 1024#32
  ![v1921.toNat, 1024]
def k0_off14 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2240 : Index := Scalar.indexCast v67
  let c1024_742 : Index := 1024#32
  ![v2240.toNat, 1024]
def k0_off15 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2319 : Index := Scalar.indexCast v67
  let c1152 : Index := 1152#32
  ![v2319.toNat, 1152]
def k0_off16 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2391 : Index := Scalar.indexCast v67
  let c1280 : Index := 1280#32
  ![v2391.toNat, 1280]
def k0_off17 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2710 : Index := Scalar.indexCast v67
  let c1280_900 : Index := 1280#32
  ![v2710.toNat, 1280]
def k0_off18 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2789 : Index := Scalar.indexCast v67
  let c1408 : Index := 1408#32
  ![v2789.toNat, 1408]
def k0_off19 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v2861 : Index := Scalar.indexCast v67
  let c1536 : Index := 1536#32
  ![v2861.toNat, 1536]
def k0_off20 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3180 : Index := Scalar.indexCast v67
  let c1536_1057 : Index := 1536#32
  ![v3180.toNat, 1536]
def k0_off21 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3259 : Index := Scalar.indexCast v67
  let c1664 : Index := 1664#32
  ![v3259.toNat, 1664]
def k0_off22 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3331 : Index := Scalar.indexCast v67
  let c1792 : Index := 1792#32
  ![v3331.toNat, 1792]
def k0_off23 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3650 : Index := Scalar.indexCast v67
  let c1792_1214 : Index := 1792#32
  ![v3650.toNat, 1792]
def k0_off24 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3729 : Index := Scalar.indexCast v67
  let c1920 : Index := 1920#32
  ![v3729.toNat, 1920]
def k0_off25 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v3801 : Index := Scalar.indexCast v67
  let c2048 : Index := 2048#32
  ![v3801.toNat, 2048]
def k0_off26 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4120 : Index := Scalar.indexCast v67
  let c2048_1371 : Index := 2048#32
  ![v4120.toNat, 2048]
def k0_off27 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4199 : Index := Scalar.indexCast v67
  let c2176 : Index := 2176#32
  ![v4199.toNat, 2176]
def k0_off28 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4271 : Index := Scalar.indexCast v67
  let c2304 : Index := 2304#32
  ![v4271.toNat, 2304]
def k0_off29 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4590 : Index := Scalar.indexCast v67
  let c2304_1529 : Index := 2304#32
  ![v4590.toNat, 2304]
def k0_off30 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4669 : Index := Scalar.indexCast v67
  let c2432 : Index := 2432#32
  ![v4669.toNat, 2432]
def k0_off31 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v4741 : Index := Scalar.indexCast v67
  let c2560 : Index := 2560#32
  ![v4741.toNat, 2560]
def k0_off32 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v5060 : Index := Scalar.indexCast v67
  let c2560_1686 : Index := 2560#32
  ![v5060.toNat, 2560]
def k0_off33 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v5139 : Index := Scalar.indexCast v67
  let c2688 : Index := 2688#32
  ![v5139.toNat, 2688]
def k0_off34 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v5211 : Index := Scalar.indexCast v67
  let c2816 : Index := 2816#32
  ![v5211.toNat, 2816]
def k0_off35 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v5530 : Index := Scalar.indexCast v67
  let c2816_1843 : Index := 2816#32
  ![v5530.toNat, 2816]
def k0_off36 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v5609 : Index := Scalar.indexCast v67
  let c2944 : Index := 2944#32
  ![v5609.toNat, 2944]
def k0_off37 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v5681 : Index := Scalar.indexCast v67
  let c3072 : Index := 3072#32
  ![v5681.toNat, 3072]
def k0_off38 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v6000 : Index := Scalar.indexCast v67
  let c3072_2000 : Index := 3072#32
  ![v6000.toNat, 3072]
def k0_off39 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v6079 : Index := Scalar.indexCast v67
  let c3200 : Index := 3200#32
  ![v6079.toNat, 3200]
def k0_off40 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v6151 : Index := Scalar.indexCast v67
  let c3328 : Index := 3328#32
  ![v6151.toNat, 3328]
def k0_off41 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v6470 : Index := Scalar.indexCast v67
  let c3328_2157 : Index := 3328#32
  ![v6470.toNat, 3328]
def k0_off42 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v6549 : Index := Scalar.indexCast v67
  let c3456 : Index := 3456#32
  ![v6549.toNat, 3456]
def k0_off43 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v6621 : Index := Scalar.indexCast v67
  let c3584 : Index := 3584#32
  ![v6621.toNat, 3584]
def k0_off44 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v6940 : Index := Scalar.indexCast v67
  let c3584_2314 : Index := 3584#32
  ![v6940.toNat, 3584]
def k0_off45 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v7019 : Index := Scalar.indexCast v67
  let c3712 : Index := 3712#32
  ![v7019.toNat, 3712]
def k0_off46 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v7091 : Index := Scalar.indexCast v67
  let c3840 : Index := 3840#32
  ![v7091.toNat, 3840]
def k0_off47 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v7410 : Index := Scalar.indexCast v67
  let c3840_2471 : Index := 3840#32
  ![v7410.toNat, 3840]
def k0_off48 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v7489 : Index := Scalar.indexCast v67
  let c3968 : Index := 3968#32
  ![v7489.toNat, 3968]
def k0_off49 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v7561 : Index := Scalar.indexCast v67
  let c4096 : Index := 4096#32
  ![v7561.toNat, 4096]
def k0_off50 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v7880 : Index := Scalar.indexCast v67
  let c4096_2628 : Index := 4096#32
  ![v7880.toNat, 4096]
def k0_off51 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v7959 : Index := Scalar.indexCast v67
  let c4224 : Index := 4224#32
  ![v7959.toNat, 4224]
def k0_off52 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v8004 : Index := Scalar.indexCast v67
  let c4352 : Index := 4352#32
  ![v8004.toNat, 4352]
def k0_off53 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v8323 : Index := Scalar.indexCast v67
  let c4352_2778 : Index := 4352#32
  ![v8323.toNat, 4352]
def k0_off54 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v8402 : Index := Scalar.indexCast v67
  let c4480 : Index := 4480#32
  ![v8402.toNat, 4480]
def k0_off55 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v8474 : Index := Scalar.indexCast v67
  let c4608 : Index := 4608#32
  ![v8474.toNat, 4608]
def k0_off56 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v8793 : Index := Scalar.indexCast v67
  let c4608_2936 : Index := 4608#32
  ![v8793.toNat, 4608]
def k0_off57 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v8872 : Index := Scalar.indexCast v67
  let c4736 : Index := 4736#32
  ![v8872.toNat, 4736]
def k0_off58 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v8944 : Index := Scalar.indexCast v67
  let c4864 : Index := 4864#32
  ![v8944.toNat, 4864]
def k0_off59 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v9263 : Index := Scalar.indexCast v67
  let c4864_3094 : Index := 4864#32
  ![v9263.toNat, 4864]
def k0_off60 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v9342 : Index := Scalar.indexCast v67
  let c4992 : Index := 4992#32
  ![v9342.toNat, 4992]
def k0_off61 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v9414 : Index := Scalar.indexCast v67
  let c5120 : Index := 5120#32
  ![v9414.toNat, 5120]
def k0_off62 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v9733 : Index := Scalar.indexCast v67
  let c5120_3252 : Index := 5120#32
  ![v9733.toNat, 5120]
def k0_off63 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v9812 : Index := Scalar.indexCast v67
  let c5248 : Index := 5248#32
  ![v9812.toNat, 5248]
def k0_off64 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v9884 : Index := Scalar.indexCast v67
  let c5376 : Index := 5376#32
  ![v9884.toNat, 5376]
def k0_off65 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v10203 : Index := Scalar.indexCast v67
  let c5376_3410 : Index := 5376#32
  ![v10203.toNat, 5376]
def k0_off66 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v10282 : Index := Scalar.indexCast v67
  let c5504 : Index := 5504#32
  ![v10282.toNat, 5504]
def k0_off67 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v10354 : Index := Scalar.indexCast v67
  let c5632 : Index := 5632#32
  ![v10354.toNat, 5632]
def k0_off68 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v10673 : Index := Scalar.indexCast v67
  let c5632_3568 : Index := 5632#32
  ![v10673.toNat, 5632]
def k0_off69 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v10752 : Index := Scalar.indexCast v67
  let c5760 : Index := 5760#32
  ![v10752.toNat, 5760]
def k0_off70 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v10824 : Index := Scalar.indexCast v67
  let c5888 : Index := 5888#32
  ![v10824.toNat, 5888]
def k0_off71 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v11143 : Index := Scalar.indexCast v67
  let c5888_3726 : Index := 5888#32
  ![v11143.toNat, 5888]
def k0_off72 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v11222 : Index := Scalar.indexCast v67
  let c6016 : Index := 6016#32
  ![v11222.toNat, 6016]
def k0_off73 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v11294 : Index := Scalar.indexCast v67
  let c6144 : Index := 6144#32
  ![v11294.toNat, 6144]
def k0_off74 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v11613 : Index := Scalar.indexCast v67
  let c6144_3884 : Index := 6144#32
  ![v11613.toNat, 6144]
def k0_off75 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v11692 : Index := Scalar.indexCast v67
  let c6272 : Index := 6272#32
  ![v11692.toNat, 6272]
def k0_off76 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v11764 : Index := Scalar.indexCast v67
  let c6400 : Index := 6400#32
  ![v11764.toNat, 6400]
def k0_off77 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v12083 : Index := Scalar.indexCast v67
  let c6400_4042 : Index := 6400#32
  ![v12083.toNat, 6400]
def k0_off78 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v12162 : Index := Scalar.indexCast v67
  let c6528 : Index := 6528#32
  ![v12162.toNat, 6528]
def k0_off79 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v12234 : Index := Scalar.indexCast v67
  let c6656 : Index := 6656#32
  ![v12234.toNat, 6656]
def k0_off80 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v12553 : Index := Scalar.indexCast v67
  let c6656_4200 : Index := 6656#32
  ![v12553.toNat, 6656]
def k0_off81 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v12632 : Index := Scalar.indexCast v67
  let c6784 : Index := 6784#32
  ![v12632.toNat, 6784]
def k0_off82 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v12704 : Index := Scalar.indexCast v67
  let c6912 : Index := 6912#32
  ![v12704.toNat, 6912]
def k0_off83 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v13023 : Index := Scalar.indexCast v67
  let c6912_4358 : Index := 6912#32
  ![v13023.toNat, 6912]
def k0_off84 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v13102 : Index := Scalar.indexCast v67
  let c7040 : Index := 7040#32
  ![v13102.toNat, 7040]
def k0_off85 (k0_t1 : Fin k0_t1_loop.trips) : Fin 2 → Nat :=
  let c0_i32_21 : BitVec 32 := 0#32
  let c0_i32_16 : BitVec 32 := 0#32
  let c1_i32_18 : BitVec 32 := 1#32
  let arg6 : BitVec 32 := Scf.iv c0_i32_16 c1_i32_18 k0_t1
  let c1_i32_20 : BitVec 32 := 1#32
  let v64 : BitVec 32 := Scalar.muli arg6 c1_i32_20
  let v65 : BitVec 32 := Scalar.addi c0_i32_21 v64
  let c32_i32_22 : BitVec 32 := 32#32
  let v66 : BitVec 32 := Scalar.muli v65 c32_i32_22
  let v67 : BitVec 32 := v66
  let v13189 : Index := Scalar.indexCast v67
  let c0_4414 : Index := 0#32
  ![v13189.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x7168 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x224 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ScalesRef.lean ====
abbrev S6144x7168 : Shape := ⟨2, ![6144, 7168]⟩
abbrev S32x32 : Shape := ⟨2, ![32, 32]⟩
abbrev S6144x224x32 : Shape := ⟨3, ![6144, 224, 32]⟩
abbrev S_ : Shape := ⟨0, ![]⟩
abbrev S6144x224 : Shape := ⟨2, ![6144, 224]⟩

abbrev nBuf : Space → Nat
  | .hbm => 34
  | .vmem => 0
  | .smem => 0
  | _ => 0

abbrev bufTy : (tb : Table) → Fin (tcTables nBuf tb) → BufTy
  | .hbm, ⟨0, _⟩ => ⟨S6144x7168, .bf16⟩
  | .hbm, ⟨1, _⟩ => ⟨S32x32, .bf16⟩
  | .hbm, ⟨2, _⟩ => ⟨S6144x224x32, .bf16⟩
  | .hbm, ⟨3, _⟩ => ⟨S6144x224x32, .f32⟩
  | .hbm, ⟨4, _⟩ => ⟨S_, .f32⟩
  | .hbm, ⟨5, _⟩ => ⟨S6144x224x32, .f32⟩
  | .hbm, ⟨6, _⟩ => ⟨S6144x224x32, .f32⟩
  | .hbm, ⟨7, _⟩ => ⟨S6144x224x32, .f32⟩
  | .hbm, ⟨8, _⟩ => ⟨S_, .f32⟩
  | .hbm, ⟨9, _⟩ => ⟨S6144x224, .f32⟩
  | .hbm, ⟨10, _⟩ => ⟨S6144x224, .f32⟩
  | .hbm, ⟨11, _⟩ => ⟨S_, .f32⟩
  | .hbm, ⟨12, _⟩ => ⟨S_, .f32⟩
  | .hbm, ⟨13, _⟩ => ⟨S6144x224, .f32⟩
  | .hbm, ⟨14, _⟩ => ⟨S6144x224, .f32⟩
  | .hbm, ⟨15, _⟩ => ⟨S6144x224, .f32⟩
  | .hbm, ⟨16, _⟩ => ⟨S6144x224, .i32⟩
  | .hbm, ⟨17, _⟩ => ⟨S_, .i32⟩
  | .hbm, ⟨18, _⟩ => ⟨S6144x224, .i32⟩
  | .hbm, ⟨19, _⟩ => ⟨S6144x224, .i32⟩
  | .hbm, ⟨20, _⟩ => ⟨S_, .f32⟩
  | .hbm, ⟨21, _⟩ => ⟨S6144x224, .f32⟩
  | .hbm, ⟨22, _⟩ => ⟨S6144x224, .i1⟩
  | .hbm, ⟨23, _⟩ => ⟨S_, .i32⟩
  | .hbm, ⟨24, _⟩ => ⟨S6144x224, .i32⟩
  | .hbm, ⟨25, _⟩ => ⟨S6144x224, .i32⟩
  | .hbm, ⟨26, _⟩ => ⟨S_, .i32⟩
  | .hbm, ⟨27, _⟩ => ⟨S_, .i32⟩
  | .hbm, ⟨28, _⟩ => ⟨S6144x224, .i32⟩
  | .hbm, ⟨29, _⟩ => ⟨S6144x224, .i32⟩
  | .hbm, ⟨30, _⟩ => ⟨S_, .i32⟩
  | .hbm, ⟨31, _⟩ => ⟨S6144x224, .i32⟩
  | .hbm, ⟨32, _⟩ => ⟨S6144x224, .i32⟩
  | .hbm, ⟨33, _⟩ => ⟨S6144x224, .i8⟩
  | _, _ => ⟨S6144x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Proof.Decode.lean ====
/- The arithmetic of one weight: the four code bits that a byte holds for one column, read as a small float the two
   ways the programs read them, and the power of two of one scale byte, read the two ways. Nothing here is about the
   programs' layouts. -/
module

public import Idealize.ShloMosaic.Lib.BitcastFour
public import Idealize.ShloMosaic.PureOps.Ideal

@[expose] public section

noncomputable section

namespace Cert.Decode

open Idealize.ShloMosaic

/-! ## Four bits as a number -/

/-- The number of the code with bits `b0 b1 b2` (magnitude, lowest first) and sign bit `b3`. -/
def e2m1 (b0 b1 b2 b3 : Bool) : EReal :=
  (((if b3 then -1 else 1)
    * (if b2 then (if b1 then (if b0 then 6 else 4) else (if b0 then 3 else 2))
       else (if b1 then (if b0 then 3/2 else 1) else (if b0 then 1/2 else 0))) : ℝ) : EReal)

/-- The number that byte `b` holds for column parity `p`: the low four bits for 0, the high four for 1. -/
def weight (p : Nat) (b : BitVec 8) : EReal :=
  e2m1 (b.getLsbD (4 * p)) (b.getLsbD (4 * p + 1)) (b.getLsbD (4 * p + 2)) (b.getLsbD (4 * p + 3))

/-! ## The kernel's reading: the bits moved into an eight-bit float -/

/-- What the kernel does to a byte, stated on the byte alone: shifted left by `sh`, bit 7 kept, bits 4 to 6 moved to 1 to 3. -/
def floatByte (sh : Nat) (b : BitVec 8) : BitVec 8 :=
  ((b <<< sh) &&& 0x80#8) ||| (((b <<< sh) >>> 3) &&& 0x0E#8)

/-- An eight-bit float whose bits are a code's, in place. -/
def codeByte (b0 b1 b2 b3 : Bool) : BitVec 8 :=
  (if b3 then 0x80#8 else 0#8) ||| (if b2 then 8#8 else 0#8) ||| (if b1 then 4#8 else 0#8) ||| (if b0 then 2#8 else 0#8)

theorem floatByte_low : ∀ b : BitVec 8, floatByte 4 b = codeByte (b.getLsbD 0) (b.getLsbD 1) (b.getLsbD 2) (b.getLsbD 3) := by
  decide +kernel

theorem floatByte_high : ∀ b : BitVec 8, floatByte 0 b = codeByte (b.getLsbD 4) (b.getLsbD 5) (b.getLsbD 6) (b.getLsbD 7) := by
  decide +kernel

/-- That eight-bit float is the code's number divided by two to the fourteenth. -/
theorem codeByte_value (b0 b1 b2 b3 : Bool) :
    Ideal.ofBits .fp8e5m2 (codeByte b0 b1 b2 b3) * Ideal.ofBits .bf16 0x4680#16 = e2m1 b0 b1 b2 b3 := by
  have h : Ideal.ofBits .bf16 0x4680#16 = ((16384 : ℝ) : EReal) := by
    simp [Ideal.ofBits, Ideal.ieee, -EReal.coe_mul]; norm_num
  rw [h]
  cases b0 <;> cases b1 <;> cases b2 <;> cases b3 <;>
    (simp [codeByte, e2m1, Ideal.ofBits, Ideal.ieee, -EReal.coe_mul] <;> rw [← EReal.coe_mul] <;> norm_num)

/-- The kernel's eight-bit float of a byte, scaled, is the weight of its parity. -/
theorem floatByte_value (p : Nat) (hp : p < 2) (b : BitVec 8) :
    Ideal.ofBits .fp8e5m2 (floatByte (4 * (1 - p)) b) * Ideal.ofBits .bf16 0x4680#16 = weight p b := by
  rcases (by omega : p = 0 ∨ p = 1) with rfl | rfl
  · rw [show 4 * (1 - 0) = 4 from rfl, floatByte_low, codeByte_value]; rfl
  · rw [show 4 * (1 - 1) = 0 from rfl, floatByte_high, codeByte_value]; rfl

/-! ## The reference's reading: one bit after the other -/

/-- The reference's selection between the eight magnitudes and their negatives, for the code in the low bits of `c`. -/
def pick (c : BitVec 32) : EReal :=
  let bit (k : BitVec 32) : BitVec 1 := IntOp.cmpi .eq (IntOp.andi (IntOp.shrsi .host c k) 1#32) 1#32
  let b0 : BitVec 1 := IntOp.cmpi .eq (IntOp.andi c 1#32) 1#32
  let n (w : BitVec 32) : EReal := Ideal.ofBits .f32 w
  let m : EReal := Scalar.select (bit 2#32)
    (Scalar.select (bit 1#32) (Scalar.select b0 (n 0x40C00000#32) (n 0x40800000#32)) (Scalar.select b0 (n 0x40400000#32) (n 0x40000000#32)))
    (Scalar.select (bit 1#32) (Scalar.select b0 (n 0x3FC00000#32) (n 0x3F800000#32)) (Scalar.select b0 (n 0x3F000000#32) (n 0x00000000#32)))
  Scalar.select (bit 3#32) (-m) m

/-- The code in the low bits of a word, by parity, as the reference takes it out of a byte. -/
def codeWord (p : Nat) (b : BitVec 8) : BitVec 32 :=
  if p = 0 then IntOp.andi (b.setWidth 32) 15#32 else IntOp.shrsi .host (b.setWidth 32) 4#32

theorem bits_codeWord : ∀ (p : Fin 2) (b : BitVec 8),
    IntOp.cmpi .eq (IntOp.andi (codeWord p.val b) 1#32) 1#32 = BitVec.ofBool (b.getLsbD (4 * p.val))
    ∧ IntOp.cmpi .eq (IntOp.andi (IntOp.shrsi .host (codeWord p.val b) 1#32) 1#32) 1#32 = BitVec.ofBool (b.getLsbD (4 * p.val + 1))
    ∧ IntOp.cmpi .eq (IntOp.andi (IntOp.shrsi .host (codeWord p.val b) 2#32) 1#32) 1#32 = BitVec.ofBool (b.getLsbD (4 * p.val + 2))
    ∧ IntOp.cmpi .eq (IntOp.andi (IntOp.shrsi .host (codeWord p.val b) 3#32) 1#32) 1#32 = BitVec.ofBool (b.getLsbD (4 * p.val + 3)) := by
  decide +kernel

/-- A selection on a Boolean's bit. -/
theorem select_ofBool {α : Type} (b : Bool) (x y : α) : Scalar.select (BitVec.ofBool b) x y = if b then x else y := by
  cases b <;> rfl

/-! The eight magnitudes as 32-bit floats. -/

theorem magnitude_0 : Ideal.ofBits .f32 0x00000000#32 = ((0 : ℝ) : EReal) := by
  simp [Ideal.ofBits, Ideal.ieee, -EReal.coe_mul]
theorem magnitude_1 : Ideal.ofBits .f32 0x3F000000#32 = ((1/2 : ℝ) : EReal) := by
  simp [Ideal.ofBits, Ideal.ieee, -EReal.coe_mul]; norm_num
theorem magnitude_2 : Ideal.ofBits .f32 0x3F800000#32 = ((1 : ℝ) : EReal) := by
  simp [Ideal.ofBits, Ideal.ieee, -EReal.coe_mul]; norm_num
theorem magnitude_3 : Ideal.ofBits .f32 0x3FC00000#32 = ((3/2 : ℝ) : EReal) := by
  simp [Ideal.ofBits, Ideal.ieee, -EReal.coe_mul]; norm_num
theorem magnitude_4 : Ideal.ofBits .f32 0x40000000#32 = ((2 : ℝ) : EReal) := by
  simp [Ideal.ofBits, Ideal.ieee, -EReal.coe_mul]; norm_num
theorem magnitude_5 : Ideal.ofBits .f32 0x40400000#32 = ((3 : ℝ) : EReal) := by
  simp [Ideal.ofBits, Ideal.ieee, -EReal.coe_mul]; norm_num
theorem magnitude_6 : Ideal.ofBits .f32 0x40800000#32 = ((4 : ℝ) : EReal) := by
  simp [Ideal.ofBits, Ideal.ieee, -EReal.coe_mul]; norm_num
theorem magnitude_7 : Ideal.ofBits .f32 0x40C00000#32 = ((6 : ℝ) : EReal) := by
  simp [Ideal.ofBits, Ideal.ieee, -EReal.coe_mul]; norm_num

theorem pick_codeWord (p : Nat) (hp : p < 2) (b : BitVec 8) : pick (codeWord p b) = weight p b := by
  obtain ⟨h0, h1, h2, h3⟩ := bits_codeWord ⟨p, hp⟩ b
  simp only [] at h0 h1 h2 h3
  unfold pick weight
  simp only [h0, h1, h2, h3, select_ofBool]
  generalize b.getLsbD (4 * p) = b0
  generalize b.getLsbD (4 * p + 1) = b1
  generalize b.getLsbD (4 * p + 2) = b2
  generalize b.getLsbD (4 * p + 3) = b3
  cases b0 <;> cases b1 <;> cases b2 <;> cases b3 <;>
    (simp only [magnitude_0, magnitude_1, magnitude_2, magnitude_3, magnitude_4, magnitude_5, magnitude_6, magnitude_7,
        e2m1, if_true, if_false, Bool.false_eq_true, ← EReal.coe_neg]; norm_num)

/-! ## A scale byte as a power of two -/

/-- The power of two that scale byte `s` stands for. -/
def scale (s : BitVec 8) : EReal := (((2 : ℝ) ^ ((s.toNat : Int) - 127) : ℝ) : EReal)

theorem exponent_fields : ∀ s : BitVec 8,
    ((s.setWidth 32 <<< (23#32)).extractLsb' 31 1 == 1#1) = false
    ∧ ((s.setWidth 32 <<< (23#32)).extractLsb' 23 8).toNat = s.toNat
    ∧ ((s.setWidth 32 <<< (23#32)).extractLsb' 0 23).toNat = 0 := by decide +kernel

/-- The kernel's reading: the byte in a float's exponent field, for a byte that is neither end of the range. -/
theorem scale_bits (s : BitVec 8) (h1 : 1 ≤ s.toNat) (h2 : s.toNat ≤ 254) :
    Ideal.ofBits .f32 (IntOp.shli .vector (s.setWidth 32) 23#32) = scale s := by
  obtain ⟨e1, e2, e3⟩ := exponent_fields s
  have hs : IntOp.shli .vector (s.setWidth 32) 23#32 = s.setWidth 32 <<< (23#32) := rfl
  rw [hs]
  unfold Ideal.ofBits Ideal.ieee scale
  simp only [e1, e2, e3, Nat.reduceAdd]
  rw [if_neg (by omega), if_neg (by omega)]
  refine congrArg Real.toEReal ?_
  have h2ne : (2 : ℝ) ≠ 0 := two_ne_zero
  have e : (s.toNat : Int) - 127 = 23 + ((s.toNat : Int) - (2 ^ (8 - 1) - 1) - ((23 : Nat) : Int)) := by
    norm_num
  rw [e, zpow_add₀ h2ne]
  norm_num

/-- The reference's reading: two to the byte's value less 127. -/
theorem scale_pow (s : BitVec 8) :
    Ideal.pow (Ideal.ofBits .f32 0x40000000#32) (((IntOp.subi (s.setWidth 32) 127#32).toInt : ℝ) : EReal) = scale s := by
  have h : Ideal.ofBits .f32 0x40000000#32 = ((2 : ℝ) : EReal) := by
    simp [Ideal.ofBits, Ideal.ieee, -EReal.coe_mul]; norm_num
  have e : ∀ s : BitVec 8, (IntOp.subi (s.setWidth 32) 127#32).toInt = (s.toNat : Int) - 127 := by decide +kernel
  rw [h, Ideal.pow_coe_coe, e, Real.rpow_eq_pow, Real.rpow_intCast]
  rfl

end Cert.Decode

end
-- ==== Proof.Words.lean ====
/- A tile of bytes worked on four at a time: thirty-two rows of bytes are read as eight rows of words, every word is
   shifted and masked, and the words are read as bytes again. Each byte comes out as `floatByte` of itself. -/
module

public import Idealize.ShloMosaic.Lib.BitcastFour
public import Idealize.ShloMosaic.Lib.Pipeline.Value
public import proofs.«01_k».proof.Proof.Decode

@[expose] public section

noncomputable section

namespace Cert.Decode

open Idealize.ShloMosaic Idealize.ShloMosaic.ValueIdx

/-- What the kernel does to one word. -/
def floatWord (sh : BitVec 32) (w : BitVec 32) : BitVec 32 :=
  IntOp.ori (IntOp.andi (IntOp.shli .vector w sh) 2155905152#32)
    (IntOp.andi (IntOp.shrsi .vector (IntOp.shli .vector w sh) 3#32) 235802126#32)

theorem floatWord_bit_low (w : BitVec 32) (i k : Nat) (hi : i < 4) (hk : k < 8) :
    (floatWord 4#32 w).getLsbD (8 * i + k) = (floatByte 4 (w.extractLsb' (8 * i) 8)).getLsbD k := by
  unfold floatWord floatByte
  interval_cases i <;> interval_cases k <;>
    simp [IntOp.ori, IntOp.andi, IntOp.shli, IntOp.shrsi, BitVec.getElem_sshiftRight]

theorem floatWord_bit_high (w : BitVec 32) (i k : Nat) (hi : i < 4) (hk : k < 8) :
    (floatWord 0#32 w).getLsbD (8 * i + k) = (floatByte 0 (w.extractLsb' (8 * i) 8)).getLsbD k := by
  unfold floatWord floatByte
  interval_cases i <;> interval_cases k <;>
    simp [IntOp.ori, IntOp.andi, IntOp.shli, IntOp.shrsi, BitVec.getElem_sshiftRight]

/-- The word of parity `p`, byte by byte. -/
theorem floatWord_bit (p : Nat) (hp : p < 2) (w : BitVec 32) (i k : Nat) (hi : i < 4) (hk : k < 8) :
    (floatWord (BitVec.ofNat 32 (4 * (1 - p))) w).getLsbD (8 * i + k)
      = (floatByte (4 * (1 - p)) (w.extractLsb' (8 * i) 8)).getLsbD k := by
  rcases (by omega : p = 0 ∨ p = 1) with rfl | rfl
  · exact floatWord_bit_low w i k hi hk
  · exact floatWord_bit_high w i k hi hk

/-- Words read as bytes: bit `k` of row `r` is bit `8 (r mod 4) + k` of word row `r / 4`. -/
theorem bitcast_words_getLsbD {R n q : Nat} (x : (⟨2, ![q, n]⟩ : Shape).Idx → BitVec 32)
    (h : (⟨2, ![q, n]⟩ : Shape).Bitcasts 32 ⟨2, ![R, n]⟩ 8) (r : Fin R) (l : Fin n) (a : Fin q) (ha : a.val = r.val / 4)
    (k : Nat) (hk : k < 8) :
    (bitcast ⟨2, ![R, n]⟩ 8 x h (ix2 r l)).getLsbD k = (x (ix2 a l)).getLsbD (8 * (r.val % 4) + k) := by
  have hrow : (⟨2, ![R, n]⟩ : Shape).row (ix2 r l) = r.val := rfl
  rw [bitcast_getLsbD x h _ k hk (by decide)]
  have e1 : ((⟨2, ![R, n]⟩ : Shape).row (ix2 r l) * 8 + k) % 32 = 8 * (r.val % 4) + k := by rw [hrow]; omega
  rw [e1]
  congr 2
  funext c
  match c with
  | ⟨0, _⟩ => exact Fin.ext ((h.srcIdx_row _ _ _ ⟨0, Nat.zero_lt_two⟩ rfl).trans (by rw [hrow, ha]; omega))
  | ⟨1, _⟩ => exact Fin.ext (h.srcIdx_other _ _ _ ⟨1, Nat.one_lt_two⟩ (by show ¬ 1 + 2 = 2; omega))

/-- The three steps together, at a row and a lane. -/
theorem floatBytes_apply {R n q : Nat} (p : Nat) (hp : p < 2) (x : (⟨2, ![R, n]⟩ : Shape).Idx → BitVec 8)
    (h : (⟨2, ![R, n]⟩ : Shape).Bitcasts 8 ⟨2, ![q, n]⟩ 32) (h' : (⟨2, ![q, n]⟩ : Shape).Bitcasts 32 ⟨2, ![R, n]⟩ 8)
    (r : Fin R) (l : Fin n) (hq : r.val / 4 < q) :
    bitcast ⟨2, ![R, n]⟩ 8 (fun i => floatWord (BitVec.ofNat 32 (4 * (1 - p))) (bitcast ⟨2, ![q, n]⟩ 32 x h i)) h' (ix2 r l)
      = floatByte (4 * (1 - p)) (x (ix2 r l)) := by
  apply BitVec.eq_of_getLsbD_eq
  intro k hk
  rw [bitcast_words_getLsbD _ h' r l ⟨r.val / 4, hq⟩ rfl k hk, floatWord_bit p hp _ _ _ (Nat.mod_lt _ (by decide)) hk]
  congr 2
  apply BitVec.eq_of_getLsbD_eq
  intro j hj
  rw [BitVec.getLsbD_extractLsb', bitcast_8_32_getLsbD_ix2 x h ⟨r.val / 4, hq⟩ l _ (by omega) r (by show _ = 4 * (r.val / 4) + _; omega)]
  simp only [hj, decide_true, Bool.true_and]
  congr 1
  omega

end Cert.Decode

end
-- ==== Proof.Tile.lean ====
/- The weights that the kernel decodes into its scratch at the first row block of a column block, as a table: store `n`
   of the 896 holds 32 rows by 128 lanes, and one function of `n` describes all of them. -/
module

public import proofs.«01_k».proof.Proof.Gen.KernelIdeal
public import proofs.«01_k».proof.Proof.Words

@[expose] public section

noncomputable section

namespace Cert.KernelIdeal.Tile

open Idealize.ShloMosaic Idealize.ShloMosaic.ValueIdx
open Cert.KernelIdeal Cert.KernelIdeal.Gen

variable {F : FTy → Type} [FloatOps F]

/-! ## The scales of one lane tile -/

/-- The lane number. -/
def lanes : IVec S224x128 32 := iota .tc S224x128 32 [1] iota_S224x128_d1_w32

/-- The number the kernel divides a lane by. -/
def modulus : BitVec 32 := Scalar.select (Scalar.cmpi .eq 128#32 0#32) 1#32 128#32

/-- Twice the lane plus the parity, its remainder. -/
def laneRem (p : BitVec 32) : IVec S224x128 32 :=
  remsi (addi (muli (broadcast S224x128 2#32) lanes) (broadcast S224x128 p)) (broadcast S224x128 modulus)

/-- The remainder with the sign of the divisor. -/
def laneMod (p : BitVec 32) : IVec S224x128 32 :=
  select (andi (xori (cmpi .slt (laneRem p) (broadcast S224x128 0#32))
      (broadcastTo S224x128 (broadcast S224x128 (Scalar.cmpi .slt modulus 0#32)) broadcasts_S224x128_S224x128))
      (cmpi .ne (laneRem p) (broadcast S224x128 0#32)))
    (addi (laneRem p) (broadcast S224x128 modulus)) (laneRem p)

/-- The lane each lane's scale comes from, within one tile of 128 scale bytes. -/
def gatherIdx (p : BitVec 32) : IVec S224x128 32 :=
  shapeCast S224x128 (shapeCast S224x128x1
    (select (cmpi .slt (laneMod p) (broadcast S224x128 0#32)) (addi (laneMod p) (broadcast S224x128 128#32)) (laneMod p))
    shapeCasts_S224x128_S224x128x1) shapeCasts_S224x128x1_S224x128

/-- One tile of scale bytes gathered. -/
def scaleGather (p : BitVec 32) (v : Vec F S224x128 .i8) : IVec S224x128 32 :=
  dynamicGather 1 (extui 32 v natLt_8_32) (gatherIdx p)

/-- The scales of one lane tile of code columns, for one parity, out of the two tiles of scale bytes that hold them. -/
def scaleTile (p : BitVec 32) (v0 v1 : Vec F S224x128 .i8) : FVec F S224x128 .bf16 :=
  truncf .bf16 (bitcastToFloat .f32 (shli (select (cmpi .slt lanes (broadcast S224x128 64#32))
    (scaleGather (F := F) p v0) (scaleGather (F := F) p v1)) (broadcast S224x128 23#32))) bitsLt_bf16_f32

/-! ## The weights of one store -/

theorem slices_row (b : Nat) (hb : b < 224) : S224x128.Slices ![b, 0] S1x128 :=
  ⟨rfl, fun a => by fin_cases a <;> simp <;> omega⟩

/-- Thirty-two rows by 128 lanes of weights: the bytes of one tile shifted, masked and read as small floats, times a power of two,
    times row `b` of the scales. -/
def wTile (sh : BitVec 32) (b : Nat) (hb : b < 224) (scale : FVec F S224x128 .bf16) (v : Vec F S32x128 .i8) : FVec F S32x128 .bf16 :=
  shapeCast S32x128 (mulf (mulf (extf .bf16 (bitcastToFloat .fp8e5m2 (bitcast S32x128 8
      (ori (andi (shli (bitcast S8x128 32 v bitcasts_S32x128_w8_S8x128_w32) (broadcast S8x128 sh)) (broadcast S8x128 2155905152#32))
        (andi (shrsi (shli (bitcast S8x128 32 v bitcasts_S32x128_w8_S8x128_w32) (broadcast S8x128 sh)) (broadcast S8x128 3#32))
          (broadcast S8x128 235802126#32)))
      bitcasts_S8x128_w32_S32x128_w8)) bitsLt_fp8e5m2_bf16)
      (broadcast S32x128 (Scalar.ofBits .bf16 0x4680#16)))
    (broadcastTo S32x128 (extractStridedSlice S1x128 ![b, 0] scale (slices_row b hb)) broadcasts_S1x128_S32x128))
    shapeCasts_S32x128_S32x128

theorem inb_scale0 (n : Nat) : ∀ a, (![0, 256 * (n / 2 % 2)] : Fin 2 → Nat) a + S224x128.size a ≤ S224x512.size a := by
  intro a; fin_cases a <;> simp <;> omega

theorem inb_scale1 (n : Nat) : ∀ a, (![0, 256 * (n / 2 % 2) + 128] : Fin 2 → Nat) a + S224x128.size a ≤ S224x512.size a := by
  intro a; fin_cases a <;> simp <;> omega

theorem inb_code (n : Nat) (hn : n < 896) :
    ∀ a, (![32 * (n / 4), 128 * (n / 2 % 2)] : Fin 2 → Nat) a + S32x128.size a ≤ S7168x256.size a := by
  intro a; fin_cases a <;> simp <;> omega

theorem inb_store (n : Nat) (hn : n < 896) :
    ∀ a, (![32 * (n / 4), 128 * (n % 4)] : Fin 2 → Nat) a + S32x128.size a ≤ S7168x512.size a := by
  intro a; fin_cases a <;> simp <;> omega

/-- What store `n` writes: row block `n / 4`, lane tile `n / 2 mod 2`, parity `n mod 2`. -/
def payload (x1 : Vec F S7168x256 .i8) (x2 : Vec F S224x512 .i8) (n : Nat) (hn : n < 896) : FVec F S32x128 .bf16 :=
  wTile (BitVec.ofNat 32 (4 * (1 - n % 2))) (n / 4) (by omega)
    (scaleTile (BitVec.ofNat 32 (n % 2))
      (View.ld x2 (Rect.unit (s := S224x512) ![0, 256 * (n / 2 % 2)] S224x128.size (inb_scale0 n)))
      (View.ld x2 (Rect.unit (s := S224x512) ![0, 256 * (n / 2 % 2) + 128] S224x128.size (inb_scale1 n))))
    (View.ld x1 (Rect.unit (s := S7168x256) ![32 * (n / 4), 128 * (n / 2 % 2)] S32x128.size (inb_code n hn)))

/-- Store `n` and where it goes. -/
def piece (x1 : Vec F S7168x256 .i8) (x2 : Vec F S224x512 .i8) (n : Nat) (hn : n < 896) : View.Piece (Elt F) S7168x512 .bf16 :=
  ⟨Rect.unit (s := S7168x512) ![32 * (n / 4), 128 * (n % 4)] S32x128.size (inb_store n hn), payload x1 x2 n hn⟩

/-- The first `n` stores, last first. -/
def pieces (x1 : Vec F S7168x256 .i8) (x2 : Vec F S224x512 .i8) : (n : Nat) → n ≤ 896 → List (View.Piece (Elt F) S7168x512 .bf16)
  | 0, _ => []
  | n + 1, h => piece x1 x2 n h :: pieces x1 x2 n (Nat.le_of_succ_le h)

theorem mem_pieces (x1 : Vec F S7168x256 .i8) (x2 : Vec F S224x512 .i8) (q : View.Piece (Elt F) S7168x512 .bf16) :
    ∀ (n : Nat) (h : n ≤ 896), q ∈ pieces x1 x2 n h → ∃ (k : Nat) (hk : k < 896), q = piece x1 x2 k hk
  | 0, _, hq => by simp [pieces] at hq
  | n + 1, h, hq => by
    rcases List.mem_cons.1 hq with rfl | hq
    · exact ⟨n, h, rfl⟩
    · exact mem_pieces x1 x2 q n _ hq

end Cert.KernelIdeal.Tile

end
-- ==== Proof.TileValue.lean ====
/- What one store of the decoded scratch holds over the reals: at row `r` and lane `l`, the weight of a code times the power of two of a
   scale byte. -/
module

public import proofs.«01_k».proof.Proof.Tile
public import Idealize.ShloMosaic.Lib.Pipeline.ValueKit.Tiles
public import Idealize.ShloMosaic.Lib.Pointwise.ElementwiseCore

@[expose] public section

noncomputable section

namespace Cert.KernelIdeal.Tile

open Idealize.ShloMosaic Idealize.ShloMosaic.ValueIdx
open Cert.KernelIdeal Cert.KernelIdeal.Gen

/-! ## Which lane a scale comes from -/

/-- `laneMod` and the wrap after it, for one lane. -/
def laneIdx (p l : BitVec 32) : BitVec 32 :=
  let m := IntOp.remsi .vector (IntOp.addi (IntOp.muli 2#32 l) p) modulus
  let w := Scalar.select (IntOp.andi (IntOp.xori (IntOp.cmpi .slt m 0#32) (Scalar.cmpi .slt modulus 0#32)) (IntOp.cmpi .ne m 0#32))
    (IntOp.addi m modulus) m
  Scalar.select (IntOp.cmpi .slt w 0#32) (IntOp.addi w 128#32) w

theorem laneIdx_toNat : ∀ (p : Fin 2) (l : Fin 128),
    (laneIdx (BitVec.ofNat 32 p.val) (BitVec.ofNat 32 l.val)).toNat = (2 * l.val + p.val) % 128 := by decide +kernel

theorem lane_lt : ∀ l : Fin 128, IntOp.cmpi .slt (BitVec.ofNat 32 l.val) 64#32 = BitVec.ofBool (decide (l.val < 64)) := by
  decide +kernel

theorem lanes_apply (r : Fin 224) (l : Fin 128) : lanes (ix2 r l) = BitVec.ofNat 32 l.val :=
  iota_single_apply _ _ _ _ _ _

theorem gatherIdx_apply (p : BitVec 32) (r : Fin 224) (l : Fin 128) : gatherIdx p (ix2 r l) = laneIdx p (BitVec.ofNat 32 l.val) := by
  unfold gatherIdx
  rw [shapeCast_shapeCast, ← lanes_apply r l]
  rfl

theorem scaleGather_apply (p : Nat) (hp : p < 2) (v : Vec Ideal S224x128 .i8) (r : Fin 224) (l : Fin 128) (c : Fin 128)
    (hc : c.val = (2 * l.val + p) % 128) :
    scaleGather (F := Ideal) (BitVec.ofNat 32 p) v (ix2 r l) = (v (ix2 r c) : BitVec 8).setWidth 32 := by
  unfold scaleGather
  rw [dynamicGather_apply, gatherIdx_apply]
  have h : (laneIdx (BitVec.ofNat 32 p) (BitVec.ofNat 32 l.val)).toNat = (2 * l.val + p) % 128 := laneIdx_toNat ⟨p, hp⟩ l
  show (v _ : BitVec 8).setWidth 32 = _
  congr 2
  funext a
  match a with
  | ⟨0, _⟩ => rfl
  | ⟨1, _⟩ => exact Fin.ext (by show (laneIdx (BitVec.ofNat 32 p) (BitVec.ofNat 32 l.val)).toNat % 128 = c.val; rw [h, hc]; omega)

/-- The scales of a lane tile, out of the scale bytes `x` of the column block: lane `l` takes column `256 t + 2 l + p`. -/
theorem scaleTile_apply (x : Vec Ideal S224x512 .i8) (hx : ∀ i, 1 ≤ (x i : BitVec 8).toNat ∧ (x i : BitVec 8).toNat ≤ 254)
    (n : Nat) (r : Fin 224) (l : Fin 128) (c : Fin 512) (hc : c.val = 256 * (n / 2 % 2) + 2 * l.val + n % 2) :
    scaleTile (F := Ideal) (BitVec.ofNat 32 (n % 2))
        (View.ld x (Rect.unit (s := S224x512) ![0, 256 * (n / 2 % 2)] S224x128.size (inb_scale0 n)))
        (View.ld x (Rect.unit (s := S224x512) ![0, 256 * (n / 2 % 2) + 128] S224x128.size (inb_scale1 n))) (ix2 r l)
      = Decode.scale (x (ix2 r c)) := by
  have hl := l.isLt
  have hp : n % 2 < 2 := Nat.mod_lt _ (by decide)
  rw [← Decode.scale_bits _ (hx _).1 (hx _).2]
  unfold scaleTile
  show Ideal.ofBits .f32 (IntOp.shli .vector (Scalar.select (IntOp.cmpi .slt (lanes (ix2 r l)) 64#32) _ _) 23#32) = _
  rw [lanes_apply, lane_lt, Decode.select_ofBool,
    scaleGather_apply (n % 2) hp _ r l ⟨(2 * l.val + n % 2) % 128, by omega⟩ rfl,
    scaleGather_apply (n % 2) hp _ r l ⟨(2 * l.val + n % 2) % 128, by omega⟩ rfl]
  congr 2
  by_cases h : l.val < 64
  · simp only [h, decide_true, if_true]
    congr 1
    refine View.ld_unit_apply_of x _ _ _ _ _ fun a => ?_
    match a with
    | ⟨0, _⟩ => show r.val = 0 + r.val; omega
    | ⟨1, _⟩ => show c.val = 256 * (n / 2 % 2) + (2 * l.val + n % 2) % 128; omega
  · simp only [h, decide_false, Bool.false_eq_true, if_false]
    congr 1
    refine View.ld_unit_apply_of x _ _ _ _ _ fun a => ?_
    match a with
    | ⟨0, _⟩ => show r.val = 0 + r.val; omega
    | ⟨1, _⟩ => show c.val = 256 * (n / 2 % 2) + 128 + (2 * l.val + n % 2) % 128; omega

/-! ## The weights of one store -/

theorem wTile_apply (p : Nat) (hp : p < 2) (b : Nat) (hb : b < 224) (s : FVec Ideal S224x128 .bf16) (v : Vec Ideal S32x128 .i8)
    (r : Fin 32) (l : Fin 128) :
    wTile (F := Ideal) (BitVec.ofNat 32 (4 * (1 - p))) b hb s v (ix2 r l) = Decode.weight p (v (ix2 r l)) * s (ix2 ⟨b, hb⟩ l) := by
  unfold wTile
  rw [shapeCast_self, ← Decode.floatByte_value p hp,
    ← Decode.floatBytes_apply (R := 32) (n := 128) (q := 8) p hp v bitcasts_S32x128_w8_S8x128_w32 bitcasts_S8x128_w32_S32x128_w8 r l
      (by have := r.isLt; omega)]
  have hs : broadcastTo S32x128 (extractStridedSlice S1x128 ![b, 0] s (slices_row b hb)) broadcasts_S1x128_S32x128 (ix2 r l)
      = s (ix2 ⟨b, hb⟩ l) := by
    rw [broadcastTo_apply _ _ _ (ix2 (0 : Fin 1) l) (fun a => by
      match a with
      | ⟨0, _⟩ => rfl
      | ⟨1, _⟩ => rfl)]
    refine extractStridedSlice_apply _ _ _ _ _ fun a => ?_
    match a with
    | ⟨0, _⟩ => rfl
    | ⟨1, _⟩ => show l.val = 0 + l.val; omega
  rw [← hs]
  rfl

/-- The decoded weights of a column block, as a function of the code bytes `x1` and scale bytes `x2` of the block: scratch column
    `(2 t + p) 128 + l` holds parity `p` of code column `128 t + l`. -/
def wdec (x1 : Vec Ideal S7168x256 .i8) (x2 : Vec Ideal S224x512 .i8) : FVec Ideal S7168x512 .bf16 := fun i =>
  Decode.weight ((i 1).val / 128 % 2)
      (x1 (ix2 (i 0) (⟨128 * ((i 1).val / 256) + (i 1).val % 128, by have h : (i 1).val < 512 := (i 1).isLt; omega⟩ : Fin 256)))
    * Decode.scale (x2 (ix2 (⟨(i 0).val / 32, by have h : (i 0).val < 7168 := (i 0).isLt; omega⟩ : Fin 224)
        (⟨2 * (128 * ((i 1).val / 256) + (i 1).val % 128) + (i 1).val / 128 % 2, by have h : (i 1).val < 512 := (i 1).isLt; omega⟩ : Fin 512)))

theorem payload_apply (x1 : Vec Ideal S7168x256 .i8) (x2 : Vec Ideal S224x512 .i8)
    (hx : ∀ i, 1 ≤ (x2 i : BitVec 8).toNat ∧ (x2 i : BitVec 8).toNat ≤ 254) (n : Nat) (hn : n < 896) (x : S32x128.Idx) :
    payload x1 x2 n hn x = wdec x1 x2 ((piece x1 x2 n hn).1.emb x) := by
  obtain ⟨r, l, rfl⟩ : ∃ (r : Fin 32) (l : Fin 128), x = ix2 r l := ⟨x 0, x 1, by funext a; match a with | ⟨0, _⟩ => rfl | ⟨1, _⟩ => rfl⟩
  have hr := r.isLt
  have hl := l.isLt
  have h0 : (((piece x1 x2 n hn).1.emb (ix2 r l)) 0).val = 32 * (n / 4) + r.val := by
    show 32 * (n / 4) + 1 * r.val = _; omega
  have h1 : (((piece x1 x2 n hn).1.emb (ix2 r l)) 1).val = 128 * (n % 4) + l.val := by
    show 128 * (n % 4) + 1 * l.val = _; omega
  unfold payload
  rw [wTile_apply (n % 2) (Nat.mod_lt _ (by decide)),
    scaleTile_apply x2 hx n _ l ⟨256 * (n / 2 % 2) + 2 * l.val + n % 2, by omega⟩ rfl]
  unfold wdec
  congr 1
  · have e : n % 2 = (((piece x1 x2 n hn).1.emb (ix2 r l)) 1).val / 128 % 2 := by rw [h1]; omega
    rw [← e]
    congr 1
    refine View.ld_unit_apply_of x1 _ _ _ _ _ fun a => ?_
    match a with
    | ⟨0, _⟩ => exact h0
    | ⟨1, _⟩ =>
      show 128 * ((((piece x1 x2 n hn).1.emb (ix2 r l)) 1).val / 256) + (((piece x1 x2 n hn).1.emb (ix2 r l)) 1).val % 128
        = 128 * (n / 2 % 2) + l.val
      rw [h1]; omega
  · congr 2
    funext a
    match a with
    | ⟨0, _⟩ =>
      refine Fin.ext ?_
      show n / 4 = (((piece x1 x2 n hn).1.emb (ix2 r l)) 0).val / 32
      rw [h0]; omega
    | ⟨1, _⟩ =>
      refine Fin.ext ?_
      show 256 * (n / 2 % 2) + 2 * l.val + n % 2 = 2 * (128 * ((((piece x1 x2 n hn).1.emb (ix2 r l)) 1).val / 256)
        + (((piece x1 x2 n hn).1.emb (ix2 r l)) 1).val % 128) + (((piece x1 x2 n hn).1.emb (ix2 r l)) 1).val / 128 % 2
      rw [h1]; omega

/-- All the stores together: wherever some store lands, the scratch holds the decoded weight. -/
theorem canon_pieces (x1 : Vec Ideal S7168x256 .i8) (x2 : Vec Ideal S224x512 .i8)
    (hx : ∀ i, 1 ≤ (x2 i : BitVec 8).toNat ∧ (x2 i : BitVec 8).toNat ≤ 254) (y : S7168x512.Idx)
    (hy : ∃ q ∈ pieces x1 x2 896 le_rfl, y ∈ q.1.set) : View.canon (pieces x1 x2 896 le_rfl) y = wdec x1 x2 y := by
  refine View.canon_apply_of_pieces (wdec x1 x2) _ (fun q hq x => ?_) y hy
  obtain ⟨k, hk, rfl⟩ := mem_pieces x1 x2 q 896 le_rfl hq
  exact payload_apply x1 x2 hx k hk x

end Cert.KernelIdeal.Tile

end
-- ==== Proof.Tail.lean ====
/- The four stores of one output block: each takes two neighbouring lane tiles of the product, the even and the odd output columns,
   and interleaves them lane by lane. -/
module

public import proofs.«01_k».proof.Proof.TileValue
public import Idealize.ShloMosaic.Lib.MatmulPlain
public import Idealize.ShloMosaic.Lib.StackMember

@[expose] public section

noncomputable section

namespace Cert.KernelIdeal.Tail

open Idealize.ShloMosaic Idealize.ShloMosaic.ValueIdx
open Cert.KernelIdeal Cert.KernelIdeal.Gen

variable {F : FTy → Type} [FloatOps F]

/-- The lane number. -/
def lanes : IVec S1024x128 32 := iota .tc S1024x128 32 [1] iota_S1024x128_d1_w32

/-- The number the lane's parity is a remainder by. -/
def two : BitVec 32 := Scalar.select (Scalar.cmpi .eq 2#32 0#32) 1#32 2#32

def laneRem : IVec S1024x128 32 := remsi lanes (broadcast S1024x128 two)

def laneMod : IVec S1024x128 32 :=
  select (andi (xori (cmpi .slt laneRem (broadcast S1024x128 0#32))
      (broadcastTo S1024x128 (broadcast S1024x128 (Scalar.cmpi .slt two 0#32)) broadcasts_S1024x128_S1024x128))
      (cmpi .ne laneRem (broadcast S1024x128 0#32)))
    (addi laneRem (broadcast S1024x128 two)) laneRem

/-- Half the lane plus an offset. -/
def half (o : BitVec 32) : IVec S1024x128 32 := addi (shrsi lanes (broadcast S1024x128 1#32)) (broadcast S1024x128 o)

/-- The lane each lane's value comes from. -/
def gatherIdx (o : BitVec 32) : IVec S1024x128 32 :=
  shapeCast S1024x128 (shapeCast S1024x128x1
    (select (cmpi .slt (half o) (broadcast S1024x128 0#32)) (addi (half o) (broadcast S1024x128 128#32)) (half o))
    shapeCasts_S1024x128_S1024x128x1) shapeCasts_S1024x128x1_S1024x128

/-- One tile of the product gathered and rounded. -/
def gathered (o : BitVec 32) (x : FVec F S1024x128 .f32) : FVec F S1024x128 .bf16 :=
  truncf .bf16 (dynamicGather 1 x (gatherIdx o)) bitsLt_bf16_f32

/-- The interleaved tile: even lanes out of `lo`, odd lanes out of `hi`. -/
def interleave (o : BitVec 32) (lo hi : FVec F S1024x128 .f32) : FVec F S1024x128 .bf16 :=
  truncf .bf16 (extf .f32 (select (cmpi .eq laneMod (broadcast S1024x128 0#32)) (gathered o lo) (gathered o hi)) bitsLt_bf16_f32)
    bitsLt_bf16_f32

theorem slices_col (q : Nat) (hq : q < 4) : S1024x512.Slices ![0, 128 * q] S1024x128 :=
  ⟨rfl, fun a => by fin_cases a <;> simp <;> omega⟩

theorem inb_out (k : Nat) (hk : k < 4) : ∀ a, (![0, 128 * k] : Fin 2 → Nat) a + S1024x128.size a ≤ S1024x512.size a := by
  intro a; fin_cases a <;> simp <;> omega

/-- The product of one block of rows with the decoded weights. -/
def product (a : Vec F S1024x7168 .bf16) (w : Vec F S7168x512 .bf16) : FVec F S1024x512 .f32 :=
  matmul dot_S1024x7168_S7168x512_S1024x512_1_0_0_1_n_n none a w (constant S1024x512 .f32 0x00000000#32)

/-- Store `k` of an output block. -/
def piece (v : FVec F S1024x512 .f32) (k : Nat) (hk : k < 4) : View.Piece (Elt F) S1024x512 .bf16 :=
  ⟨Rect.unit (s := S1024x512) ![0, 128 * k] S1024x128.size (inb_out k hk),
    interleave (BitVec.ofNat 32 (64 * (k % 2)))
      (extractStridedSlice S1024x128 ![0, 128 * (2 * (k / 2))] v (slices_col _ (by omega)))
      (extractStridedSlice S1024x128 ![0, 128 * (2 * (k / 2) + 1)] v (slices_col _ (by omega)))⟩

/-- The four stores of an output block, last first. -/
def pieces (v : FVec F S1024x512 .f32) : List (View.Piece (Elt F) S1024x512 .bf16) :=
  [piece v 3 (by decide), piece v 2 (by decide), piece v 1 (by decide), piece v 0 (by decide)]

/-! ## Over the reals -/

theorem lanes_apply (r : Fin 1024) (l : Fin 128) : lanes (ix2 r l) = BitVec.ofNat 32 l.val :=
  iota_single_apply _ _ _ _ _ _

/-- Half the lane plus the offset, and the wrap after it, for one lane. -/
def laneIdx (o l : BitVec 32) : BitVec 32 :=
  let h := IntOp.addi (IntOp.shrsi .vector l 1#32) o
  Scalar.select (IntOp.cmpi .slt h 0#32) (IntOp.addi h 128#32) h

theorem laneIdx_toNat : ∀ (k : Fin 2) (l : Fin 128),
    (laneIdx (BitVec.ofNat 32 (64 * k.val)) (BitVec.ofNat 32 l.val)).toNat = l.val / 2 + 64 * k.val := by decide +kernel

/-- The test for an even lane, for one lane. -/
def laneEven (l : BitVec 32) : BitVec 1 :=
  let m := IntOp.remsi .vector l two
  let w := Scalar.select (IntOp.andi (IntOp.xori (IntOp.cmpi .slt m 0#32) (Scalar.cmpi .slt two 0#32)) (IntOp.cmpi .ne m 0#32))
    (IntOp.addi m two) m
  IntOp.cmpi .eq w 0#32

theorem laneEven_eq : ∀ l : Fin 128, laneEven (BitVec.ofNat 32 l.val) = BitVec.ofBool (decide (l.val % 2 = 0)) := by
  decide +kernel

theorem gatherIdx_apply (o : BitVec 32) (r : Fin 1024) (l : Fin 128) : gatherIdx o (ix2 r l) = laneIdx o (BitVec.ofNat 32 l.val) := by
  unfold gatherIdx
  rw [shapeCast_shapeCast, ← lanes_apply r l]
  rfl

theorem gathered_apply (k : Nat) (hk : k < 2) (x : FVec Ideal S1024x128 .f32) (r : Fin 1024) (l : Fin 128) (c : Fin 128)
    (hc : c.val = l.val / 2 + 64 * k) : gathered (F := Ideal) (BitVec.ofNat 32 (64 * k)) x (ix2 r l) = x (ix2 r c) := by
  unfold gathered
  show dynamicGather 1 x _ (ix2 r l) = _
  rw [dynamicGather_apply, gatherIdx_apply]
  have h : (laneIdx (BitVec.ofNat 32 (64 * k)) (BitVec.ofNat 32 l.val)).toNat = l.val / 2 + 64 * k := laneIdx_toNat ⟨k, hk⟩ l
  congr 1
  funext a
  match a with
  | ⟨0, _⟩ => rfl
  | ⟨1, _⟩ =>
    exact Fin.ext (by
      show (laneIdx (BitVec.ofNat 32 (64 * k)) (BitVec.ofNat 32 l.val)).toNat % 128 = c.val
      have := c.isLt
      rw [h, hc]; omega)

/-- Output column `C` of a block is column `column C` of the product: the lane tile of `C`'s pair and parity, and half of `C`'s place
    within the pair. -/
def column (C : Fin 512) : Fin 512 := ⟨256 * (C.val / 256) + 128 * (C.val % 2) + C.val % 256 / 2, by have := C.isLt; omega⟩

theorem piece_apply (v : FVec Ideal S1024x512 .f32) (k : Nat) (hk : k < 4) (x : S1024x128.Idx) :
    (piece v k hk).2 x = (fun i => v (ix2 (i 0) (column (i 1)))) ((piece v k hk).1.emb x) := by
  obtain ⟨r, l, rfl⟩ : ∃ (r : Fin 1024) (l : Fin 128), x = ix2 r l :=
    ⟨x 0, x 1, by funext a; match a with | ⟨0, _⟩ => rfl | ⟨1, _⟩ => rfl⟩
  have hl := l.isLt
  have h0 : (((piece v k hk).1.emb (ix2 r l)) 0).val = r.val := by show 0 + 1 * r.val = _; omega
  have h1 : (((piece v k hk).1.emb (ix2 r l)) 1).val = 128 * k + l.val := by show 128 * k + 1 * l.val = _; omega
  have hlo : ∀ (q : Nat) (hq : q < 4) (c : Fin 128) (C : Fin 512), C.val = 128 * q + c.val →
      extractStridedSlice S1024x128 ![0, 128 * q] v (slices_col q hq) (ix2 r c) = v (ix2 r C) := fun q hq c C hC => by
    refine extractStridedSlice_apply _ _ _ _ _ fun a => ?_
    match a with
    | ⟨0, _⟩ => show r.val = 0 + r.val; omega
    | ⟨1, _⟩ => exact hC
  show interleave (F := Ideal) _ _ _ (ix2 r l) = _
  unfold interleave
  show Scalar.select (laneEven (lanes (ix2 r l))) (gathered (F := Ideal) _ _ (ix2 r l)) (gathered (F := Ideal) _ _ (ix2 r l)) = _
  rw [lanes_apply, laneEven_eq, Decode.select_ofBool,
    gathered_apply (k % 2) (Nat.mod_lt _ (by decide)) _ r l ⟨l.val / 2 + 64 * (k % 2), by omega⟩ rfl,
    gathered_apply (k % 2) (Nat.mod_lt _ (by decide)) _ r l ⟨l.val / 2 + 64 * (k % 2), by omega⟩ rfl,
    hlo (2 * (k / 2)) (by omega) _ ⟨128 * (2 * (k / 2)) + (l.val / 2 + 64 * (k % 2)), by omega⟩ rfl,
    hlo (2 * (k / 2) + 1) (by omega) _ ⟨128 * (2 * (k / 2) + 1) + (l.val / 2 + 64 * (k % 2)), by omega⟩ rfl]
  have e : ∀ C : Fin 512, C.val = 256 * ((128 * k + l.val) / 256) + 128 * ((128 * k + l.val) % 2) + (128 * k + l.val) % 256 / 2 →
      v (ix2 r C) = (fun i : S1024x512.Idx => v (ix2 (i 0) (column (i 1)))) ((piece v k hk).1.emb (ix2 r l)) := fun C hC => by
    refine congrArg v (funext fun a => ?_)
    match a with
    | ⟨0, _⟩ => exact Fin.ext h0.symm
    | ⟨1, _⟩ =>
      refine Fin.ext ?_
      show C.val = 256 * ((((piece v k hk).1.emb (ix2 r l)) 1).val / 256) + 128 * ((((piece v k hk).1.emb (ix2 r l)) 1).val % 2)
        + (((piece v k hk).1.emb (ix2 r l)) 1).val % 256 / 2
      rw [h1, hC]
  by_cases hp : l.val % 2 = 0
  · simp only [hp, decide_true, if_true]
    exact e _ (by show 128 * (2 * (k / 2)) + (l.val / 2 + 64 * (k % 2)) = _; omega)
  · simp only [hp, decide_false, Bool.false_eq_true, if_false]
    exact e _ (by show 128 * (2 * (k / 2) + 1) + (l.val / 2 + 64 * (k % 2)) = _; omega)

theorem mem_pieces (v : FVec Ideal S1024x512 .f32) (q : View.Piece (Elt Ideal) S1024x512 .bf16) (hq : q ∈ pieces v) :
    ∃ (k : Nat) (hk : k < 4), q = piece v k hk := by
  simp only [pieces, List.mem_cons, List.not_mem_nil, or_false] at hq
  rcases hq with rfl | rfl | rfl | rfl
  exacts [⟨3, _, rfl⟩, ⟨2, _, rfl⟩, ⟨1, _, rfl⟩, ⟨0, _, rfl⟩]

/-- The four stores together. -/
theorem canon_pieces (v : FVec Ideal S1024x512 .f32) (y : S1024x512.Idx) (hy : ∃ q ∈ pieces v, y ∈ q.1.set) :
    View.canon (pieces v) y = v (ix2 (y 0) (column (y 1))) := by
  refine View.canon_apply_of_pieces (fun i : S1024x512.Idx => v (ix2 (i 0) (column (i 1)))) _ (fun q hq x => ?_) y hy
  obtain ⟨k, hk, rfl⟩ := mem_pieces v q hq
  exact piece_apply v k hk x

theorem product_apply (a : Vec Ideal S1024x7168 .bf16) (w : Vec Ideal S7168x512 .bf16) (r : Fin 1024) (C : Fin 512) :
    product (F := Ideal) a w (ix2 r C) = ∑ k : Fin 7168, a (ix2 r k) * w (ix2 k C) := by
  have h := Ideal.matmul_plain_apply (M := 1024) (K := 7168) (N := 512) (φ₁ := .bf16) (φ₂ := .bf16) none a w
    (constant S1024x512 .f32 0x00000000#32) r C
  have z : (constant (F := Ideal) S1024x512 .f32 0x00000000#32) (ix2 r C) = (0 : EReal) :=
    (Decode.magnitude_0).trans (by norm_num)
  rw [z, zero_add] at h
  exact h

end Cert.KernelIdeal.Tail

end
-- ==== Proof.Stores.lean ====
/- The stores that the kernel's body makes at one grid point are the ones the tables describe: by unfolding both. -/
module

public import proofs.«01_k».proof.Proof.Tail
public import proofs.«01_k».proof.Proof.Gen.KernelIdeal.Value

@[expose] public section

noncomputable section

namespace Cert.KernelIdeal.Stores

open Idealize.ShloMosaic Idealize.ShloMosaic.ValueIdx Idealize.ShloMosaic.Tactic
open Cert.KernelIdeal Cert.KernelIdeal.Gen

variable {F : FTy → Type} [FloatOps F]

/-- At a point that keeps the scratch, the four stores interleave the product with the scratch as it was. -/
theorem out_B (c : Dev nD) (i : grid0.Coords) (arg2 : Memref sig .tc .vmem S1024x7168 .bf16) (harg2 : arg2.IsWhole)
    (arg3 : Memref sig .tc .vmem S7168x256 .i8) (harg3 : arg3.IsWhole) (arg4 : Memref sig .tc .vmem S224x512 .i8) (harg4 : arg4.IsWhole)
    (arg5 : Memref sig .tc .vmem S1024x512 .bf16) (harg5 : arg5.IsWhole) (arg6 : Memref sig .tc .vmem S7168x512 .bf16) (harg6 : arg6.IsWhole)
    (hc0 : ¬cond0_0 i) (x0 : Vec F S1024x7168 .bf16) (x1 : Vec F S7168x256 .i8) (x2 : Vec F S224x512 .i8) (xs0 : Vec F S7168x512 .bf16) :
    (kernelRun0_B c i arg2 harg2 arg3 harg3 arg4 harg4 arg5 harg5 arg6 harg6 hc0 x0 x1 x2 xs0).1
      = Tail.pieces (Tail.product
          (View.ld (arg2.view.read (Elt F) (harg2.unread x0)) (Rect.unit (s := S1024x7168) ![0, 0] S1024x7168.size (by decide)))
          (View.ld (arg6.view.read (Elt F) (harg6.unread xs0)) (Rect.unit (s := S7168x512) ![0, 0] S7168x512.size (by decide)))) := by
  sl_kernel_rfl

/-- At a point that decodes, the 896 stores into the scratch are the table's. -/
theorem scratch_A (c : Dev nD) (i : grid0.Coords) (arg2 : Memref sig .tc .vmem S1024x7168 .bf16) (harg2 : arg2.IsWhole)
    (arg3 : Memref sig .tc .vmem S7168x256 .i8) (harg3 : arg3.IsWhole) (arg4 : Memref sig .tc .vmem S224x512 .i8) (harg4 : arg4.IsWhole)
    (arg5 : Memref sig .tc .vmem S1024x512 .bf16) (harg5 : arg5.IsWhole) (arg6 : Memref sig .tc .vmem S7168x512 .bf16) (harg6 : arg6.IsWhole)
    (hc0 : cond0_0 i) (x0 : Vec F S1024x7168 .bf16) (x1 : Vec F S7168x256 .i8) (x2 : Vec F S224x512 .i8) :
    (kernelRun0_A c i arg2 harg2 arg3 harg3 arg4 harg4 arg5 harg5 arg6 harg6 hc0 x0 x1 x2).2.1
      = Tile.pieces (arg3.view.read (Elt F) (harg3.unread x1)) (arg4.view.read (Elt F) (harg4.unread x2)) 896 le_rfl := by
  sl_kernel_rfl

/-- At such a point the four stores interleave the product with the scratch just written. -/
theorem out_A (c : Dev nD) (i : grid0.Coords) (arg2 : Memref sig .tc .vmem S1024x7168 .bf16) (harg2 : arg2.IsWhole)
    (arg3 : Memref sig .tc .vmem S7168x256 .i8) (harg3 : arg3.IsWhole) (arg4 : Memref sig .tc .vmem S224x512 .i8) (harg4 : arg4.IsWhole)
    (arg5 : Memref sig .tc .vmem S1024x512 .bf16) (harg5 : arg5.IsWhole) (arg6 : Memref sig .tc .vmem S7168x512 .bf16) (harg6 : arg6.IsWhole)
    (hc0 : cond0_0 i) (x0 : Vec F S1024x7168 .bf16) (x1 : Vec F S7168x256 .i8) (x2 : Vec F S224x512 .i8) :
    (kernelRun0_A c i arg2 harg2 arg3 harg3 arg4 harg4 arg5 harg5 arg6 harg6 hc0 x0 x1 x2).1
      = Tail.pieces (Tail.product
          (View.ld (arg2.view.read (Elt F) (harg2.unread x0)) (Rect.unit (s := S1024x7168) ![0, 0] S1024x7168.size (by decide)))
          (arg6.view.readCov (kernelRun0_A c i arg2 harg2 arg3 harg3 arg4 harg4 arg5 harg5 arg6 harg6 hc0 x0 x1 x2).2.1
            (Rect.unit (s := S7168x512) ![0, 0] S7168x512.size (by decide)).toLoadRect)) := by
  sl_kernel_rfl

end Cert.KernelIdeal.Stores

end
-- ==== Proof.Blocks.lean ====
/- The blocks of the three arguments that a grid point reads, and what the body leaves at it, over the reals. -/
module

public import proofs.«01_k».proof.Proof.Stores

@[expose] public section

noncomputable section

namespace Cert.KernelIdeal.Blocks

open Idealize.ShloMosaic Idealize.ShloMosaic.ValueIdx Idealize.ShloMosaic.TcCoe
open Cert.KernelIdeal Cert.KernelIdeal.Gen

variable (m : (ℓ : Loc nD τ sig) → Buf (Elt Ideal) ℓ)

/-! ## Which block -/

theorem index_0 : ∀ t : Fin cfg0.N, win0_0.index t (0 : Fin 2) = t.val % 6 ∧ win0_0.index t (1 : Fin 2) = 0 :=
  (by decide +kernel : ∀ t : Fin grid0.N, _)

theorem index_1 : ∀ t : Fin cfg0.N, win0_1.index t (0 : Fin 2) = 0 ∧ win0_1.index t (1 : Fin 2) = t.val / 6 :=
  (by decide +kernel : ∀ t : Fin grid0.N, _)

theorem index_2 : ∀ t : Fin cfg0.N, win0_2.index t (0 : Fin 2) = 0 ∧ win0_2.index t (1 : Fin 2) = t.val / 6 :=
  (by decide +kernel : ∀ t : Fin grid0.N, _)

/-- The rows of the left operand at point `t`: row block `t mod 6`. -/
theorem rows_apply (c : Dev nD) (t : Fin cfg0.N) (r : Fin 1024) (k : Fin 7168) (R : Fin 6144) (hR : R.val = 1024 * (t.val % 6) + r.val) :
    iblk m c 0 t (ix2 r k) = m ((c : Thread nD τ).loc main_arg0) (ix2 R k) := by
  obtain ⟨e0, e1⟩ := index_0 t
  show m ((c : Thread nD τ).loc main_arg0) (((cfg0.win 0).blk t).view.emb (ix2 r k)) = _
  refine congrArg (m ((c : Thread nD τ).loc main_arg0)) (funext fun a => Fin.ext ?_)
  match a with
  | ⟨0, _⟩ => show win0_0.index t (0 : Fin 2) * 1024 + 1 * r.val = R.val; omega
  | ⟨1, _⟩ => show win0_0.index t (1 : Fin 2) * 7168 + 1 * k.val = k.val; omega

/-- The code bytes at point `t`: column block `t / 6`. -/
theorem codes_apply (c : Dev nD) (t : Fin cfg0.N) (k : Fin 7168) (l : Fin 256) (C : Fin 9216) (hC : C.val = 256 * (t.val / 6) + l.val) :
    iblk m c 1 t (ix2 k l) = m ((c : Thread nD τ).loc main_arg1) (ix2 k C) := by
  obtain ⟨e0, e1⟩ := index_1 t
  show m ((c : Thread nD τ).loc main_arg1) (((cfg0.win 1).blk t).view.emb (ix2 k l)) = _
  refine congrArg (m ((c : Thread nD τ).loc main_arg1)) (funext fun a => Fin.ext ?_)
  match a with
  | ⟨0, _⟩ => show win0_1.index t (0 : Fin 2) * 7168 + 1 * k.val = k.val; omega
  | ⟨1, _⟩ => show win0_1.index t (1 : Fin 2) * 256 + 1 * l.val = C.val; omega

/-- The scale bytes at point `t`: column block `t / 6`. -/
theorem scales_apply (c : Dev nD) (t : Fin cfg0.N) (k : Fin 224) (l : Fin 512) (C : Fin 18432) (hC : C.val = 512 * (t.val / 6) + l.val) :
    iblk m c 2 t (ix2 k l) = m ((c : Thread nD τ).loc main_arg2) (ix2 k C) := by
  obtain ⟨e0, e1⟩ := index_2 t
  show m ((c : Thread nD τ).loc main_arg2) (((cfg0.win 2).blk t).view.emb (ix2 k l)) = _
  refine congrArg (m ((c : Thread nD τ).loc main_arg2)) (funext fun a => Fin.ext ?_)
  match a with
  | ⟨0, _⟩ => show win0_2.index t (0 : Fin 2) * 224 + 1 * k.val = k.val; omega
  | ⟨1, _⟩ => show win0_2.index t (1 : Fin 2) * 512 + 1 * l.val = C.val; omega

/-! ## One weight -/

/-- The weight in row `k` and column `C` of the whole matrix, out of its code bytes and scale bytes. -/
def weightAt (w : (⟨2, ![7168, 9216]⟩ : Shape).Idx → BitVec 8) (s : (⟨2, ![224, 18432]⟩ : Shape).Idx → BitVec 8)
    (k : Fin 7168) (C : Fin 18432) : EReal :=
  Decode.weight (C.val % 2) (w (ix2 k (⟨C.val / 2, by have := C.isLt; omega⟩ : Fin 9216)))
    * Decode.scale (s (ix2 (⟨k.val / 32, by have := k.isLt; omega⟩ : Fin 224) C))

/-- All scale bytes of a memory are away from both ends of the range. -/
def ScalesOk (c : Dev nD) : Prop :=
  ∀ i : (⟨2, ![224, 18432]⟩ : Shape).Idx, 1 ≤ (m ((c : Thread nD τ).loc main_arg2) i : BitVec 8).toNat
    ∧ (m ((c : Thread nD τ).loc main_arg2) i : BitVec 8).toNat ≤ 254

theorem block_scales_ok (c : Dev nD) (h : ScalesOk m c) (t : Fin cfg0.N) (i : S224x512.Idx) :
    1 ≤ (iblk m c 2 t i : BitVec 8).toNat ∧ (iblk m c 2 t i : BitVec 8).toNat ≤ 254 :=
  h (((cfg0.win 2).blk t).view.emb i)

/-- The decoded weights of a block are the matrix's: scratch column `column C` of column block `j` is column `512 j + C`. -/
theorem wdec_apply (c : Dev nD) (t : Fin cfg0.N) (k : Fin 7168) (l : Fin 512) (C : Fin 18432) (hC : C.val = 512 * (t.val / 6) + l.val) :
    Tile.wdec (iblk m c 1 t) (iblk m c 2 t) (ix2 k (Tail.column l))
      = weightAt (m ((c : Thread nD τ).loc main_arg1)) (m ((c : Thread nD τ).loc main_arg2)) k C := by
  have hl := l.isLt
  have hk := k.isLt
  obtain ⟨q1, q2, q3⟩ : (Tail.column l).val / 256 = l.val / 256 ∧ (Tail.column l).val % 128 = l.val % 256 / 2
      ∧ (Tail.column l).val / 128 % 2 = l.val % 2 := by
    show (256 * (l.val / 256) + 128 * (l.val % 2) + l.val % 256 / 2) / 256 = l.val / 256
      ∧ (256 * (l.val / 256) + 128 * (l.val % 2) + l.val % 256 / 2) % 128 = l.val % 256 / 2
      ∧ (256 * (l.val / 256) + 128 * (l.val % 2) + l.val % 256 / 2) / 128 % 2 = l.val % 2
    obtain ⟨u, v, w, hu, hv, hw⟩ : ∃ u v w, u = l.val / 256 ∧ v = l.val % 2 ∧ w = l.val % 256 / 2 := ⟨_, _, _, rfl, rfl, rfl⟩
    rw [← hu, ← hv, ← hw]
    have hv' : v < 2 := by omega
    have hw' : w < 128 := by omega
    have h128 : (256 * u + 128 * v + w) / 128 = 2 * u + v := by omega
    refine ⟨by omega, by omega, by rw [h128]; omega⟩
  unfold Tile.wdec weightAt
  show Decode.weight ((Tail.column l).val / 128 % 2) (iblk m c 1 t (ix2 k _)) * Decode.scale (iblk m c 2 t (ix2 _ _)) = _
  rw [codes_apply m c t k _ ⟨C.val / 2, by omega⟩ (by
      show C.val / 2 = 256 * (t.val / 6) + (128 * ((Tail.column l).val / 256) + (Tail.column l).val % 128); rw [q1, q2]; omega),
    scales_apply m c t _ _ C (by
      show C.val = 512 * (t.val / 6) + (2 * (128 * ((Tail.column l).val / 256) + (Tail.column l).val % 128)
        + (Tail.column l).val / 128 % 2); rw [q1, q2, q3]; omega)]
  congr 2
  rw [q3]; omega

/-! ## What a point leaves -/

theorem ld_whole {S : Shape} {e : EltTy} (X : S.Idx → Elt Ideal e) {off : Fin S.rank → Nat} (h : off = fun _ => 0)
    (inb : ∀ a, off a + S.size a ≤ S.size a) : View.ld X (Rect.unit (s := S) off S.size inb) = X := by
  subst h
  funext x
  exact View.ld_unit_apply_of X _ _ _ x x fun a => (Nat.zero_add _).symm

theorem zero2 : (![0, 0] : Fin 2 → Nat) = fun _ => 0 := by funext a; match a with | ⟨0, _⟩ => rfl | ⟨1, _⟩ => rfl

/-- A load of a whole buffer that stores cover reads what the stores leave. -/
theorem readCov_whole {S : Shape} {e : EltTy} (v : View sig .tc .vmem S e) (L : List (View.Piece (Elt Ideal) S e)) {off : Fin S.rank → Nat}
    (h : off = fun _ => 0) (inb : ∀ a, off a + S.size a ≤ S.size a) :
    v.readCov L (Rect.unit (s := S) off S.size inb).toLoadRect = View.canon L := by
  rw [View.readCov_eq_canon']
  exact ld_whole (View.canon L) h inb

/-- The scratch after a point that decodes. -/
theorem sout_A (c : Dev nD) (i : grid0.Coords) (arg2 : Memref sig .tc .vmem S1024x7168 .bf16) (harg2 : arg2.IsWhole)
    (arg3 : Memref sig .tc .vmem S7168x256 .i8) (harg3 : arg3.IsWhole) (arg4 : Memref sig .tc .vmem S224x512 .i8) (harg4 : arg4.IsWhole)
    (arg5 : Memref sig .tc .vmem S1024x512 .bf16) (harg5 : arg5.IsWhole) (arg6 : Memref sig .tc .vmem S7168x512 .bf16) (harg6 : arg6.IsWhole)
    (hc0 : cond0_0 i) (x0 : Vec Ideal S1024x7168 .bf16) (x1 : Vec Ideal S7168x256 .i8) (x2 : Vec Ideal S224x512 .i8)
    (hx : ∀ i, 1 ≤ (x2 i : BitVec 8).toNat ∧ (x2 i : BitVec 8).toNat ≤ 254) :
    View.canon (kernelRun0_A (F := Ideal) c i arg2 harg2 arg3 harg3 arg4 harg4 arg5 harg5 arg6 harg6 hc0 x0 x1 x2).2.1 = Tile.wdec x1 x2 := by
  funext y
  have hcov := scover0_A_0 (F := Ideal) c i arg2 harg2 arg3 harg3 arg4 harg4 arg5 harg5 arg6 harg6 hc0 x0 x1 x2 y
  rw [Stores.scratch_A, harg3.read_unread, harg4.read_unread] at hcov ⊢
  exact Tile.canon_pieces x1 x2 hx y hcov

/-- The output block after a point that decodes. -/
theorem out_A (c : Dev nD) (i : grid0.Coords) (arg2 : Memref sig .tc .vmem S1024x7168 .bf16) (harg2 : arg2.IsWhole)
    (arg3 : Memref sig .tc .vmem S7168x256 .i8) (harg3 : arg3.IsWhole) (arg4 : Memref sig .tc .vmem S224x512 .i8) (harg4 : arg4.IsWhole)
    (arg5 : Memref sig .tc .vmem S1024x512 .bf16) (harg5 : arg5.IsWhole) (arg6 : Memref sig .tc .vmem S7168x512 .bf16) (harg6 : arg6.IsWhole)
    (hc0 : cond0_0 i) (x0 : Vec Ideal S1024x7168 .bf16) (x1 : Vec Ideal S7168x256 .i8) (x2 : Vec Ideal S224x512 .i8)
    (hx : ∀ i, 1 ≤ (x2 i : BitVec 8).toNat ∧ (x2 i : BitVec 8).toNat ≤ 254) (r : Fin 1024) (l : Fin 512) :
    View.canon (kernelRun0_A (F := Ideal) c i arg2 harg2 arg3 harg3 arg4 harg4 arg5 harg5 arg6 harg6 hc0 x0 x1 x2).1 (ix2 r l)
      = ∑ k : Fin 7168, x0 (ix2 r k) * Tile.wdec x1 x2 (ix2 k (Tail.column l)) := by
  have hcov := cover0_A_3 (F := Ideal) c i arg2 harg2 arg3 harg3 arg4 harg4 arg5 harg5 arg6 harg6 hc0 x0 x1 x2 (ix2 r l)
  have hs := sout_A c i arg2 harg2 arg3 harg3 arg4 harg4 arg5 harg5 arg6 harg6 hc0 x0 x1 x2 hx
  rw [Stores.out_A, harg2.read_unread, ld_whole _ zero2, readCov_whole _ _ zero2, hs] at hcov ⊢
  rw [Tail.canon_pieces _ _ hcov]
  exact Tail.product_apply x0 (Tile.wdec x1 x2) r (Tail.column l)

/-- The output block after a point that keeps the scratch. -/
theorem out_B (c : Dev nD) (i : grid0.Coords) (arg2 : Memref sig .tc .vmem S1024x7168 .bf16) (harg2 : arg2.IsWhole)
    (arg3 : Memref sig .tc .vmem S7168x256 .i8) (harg3 : arg3.IsWhole) (arg4 : Memref sig .tc .vmem S224x512 .i8) (harg4 : arg4.IsWhole)
    (arg5 : Memref sig .tc .vmem S1024x512 .bf16) (harg5 : arg5.IsWhole) (arg6 : Memref sig .tc .vmem S7168x512 .bf16) (harg6 : arg6.IsWhole)
    (hc0 : ¬cond0_0 i) (x0 : Vec Ideal S1024x7168 .bf16) (x1 : Vec Ideal S7168x256 .i8) (x2 : Vec Ideal S224x512 .i8)
    (xs0 : Vec Ideal S7168x512 .bf16) (r : Fin 1024) (l : Fin 512) :
    View.canon (kernelRun0_B (F := Ideal) c i arg2 harg2 arg3 harg3 arg4 harg4 arg5 harg5 arg6 harg6 hc0 x0 x1 x2 xs0).1 (ix2 r l)
      = ∑ k : Fin 7168, x0 (ix2 r k) * xs0 (ix2 k (Tail.column l)) := by
  have hcov := cover0_B_3 (F := Ideal) c i arg2 harg2 arg3 harg3 arg4 harg4 arg5 harg5 arg6 harg6 hc0 x0 x1 x2 xs0 (ix2 r l)
  rw [Stores.out_B, harg2.read_unread, harg6.read_unread, ld_whole _ zero2, ld_whole _ zero2] at hcov ⊢
  rw [Tail.canon_pieces _ _ hcov]
  exact Tail.product_apply x0 xs0 r (Tail.column l)

end Cert.KernelIdeal.Blocks

end
-- ==== Proof.KernelValue.lean ====
/- What the kernel's run leaves in its result, over the reals: the product of the left operand with the weight matrix. -/
module

public import proofs.«01_k».proof.Proof.Blocks

@[expose] public section

noncomputable section

namespace Cert.KernelIdeal.Blocks

open Idealize.ShloMosaic Idealize.ShloMosaic.ValueIdx Idealize.ShloMosaic.TcCoe
open Cert.KernelIdeal Cert.KernelIdeal.Gen Cert.KernelIdeal.Value

variable (m : (ℓ : Loc nD τ sig) → Buf (Elt Ideal) ℓ)

/-- The rows of the left operand that point `t` reads. -/
def rows (c : Dev nD) (t : Fin cfg0.N) : FVec Ideal S1024x7168 .bf16 := iblk m c 0 t

/-- The weights of column block `j`, laid out as the scratch holds them (at any point of the block). -/
def held (c : Dev nD) (n : Nat) (hn : n < cfg0.N) : FVec Ideal S7168x512 .bf16 :=
  Tile.wdec (iblk m c 1 ⟨n, hn⟩) (iblk m c 2 ⟨n, hn⟩)

/-- Two points of one column block hold the same weights. -/
theorem held_congr (c : Dev nD) (n n' : Nat) (hn : n < cfg0.N) (hn' : n' < cfg0.N) (h : n / 6 = n' / 6) : held m c n hn = held m c n' hn' := by
  have hN : cfg0.N = 216 := N_0
  have e1 : iblk m c 1 ⟨n, hn⟩ = iblk m c 1 ⟨n', hn'⟩ := by
    funext i
    obtain ⟨k, l, rfl⟩ : ∃ (k : Fin 7168) (l : Fin 256), i = ix2 k l :=
      ⟨i 0, i 1, by funext a; match a with | ⟨0, _⟩ => rfl | ⟨1, _⟩ => rfl⟩
    have hl := l.isLt
    rw [codes_apply m c ⟨n, hn⟩ k l ⟨256 * (n / 6) + l.val, by omega⟩ rfl,
      codes_apply m c ⟨n', hn'⟩ k l ⟨256 * (n / 6) + l.val, by omega⟩ (by show 256 * (n / 6) + l.val = 256 * (n' / 6) + l.val; omega)]
  have e2 : iblk m c 2 ⟨n, hn⟩ = iblk m c 2 ⟨n', hn'⟩ := by
    funext i
    obtain ⟨k, l, rfl⟩ : ∃ (k : Fin 224) (l : Fin 512), i = ix2 k l :=
      ⟨i 0, i 1, by funext a; match a with | ⟨0, _⟩ => rfl | ⟨1, _⟩ => rfl⟩
    have hl := l.isLt
    rw [scales_apply m c ⟨n, hn⟩ k l ⟨512 * (n / 6) + l.val, by omega⟩ rfl,
      scales_apply m c ⟨n', hn'⟩ k l ⟨512 * (n / 6) + l.val, by omega⟩ (by show 512 * (n / 6) + l.val = 512 * (n' / 6) + l.val; omega)]
  unfold held
  rw [e1, e2]

/-- After every point the scratch holds the weights of the point's column block: decoded at the block's first point, kept at the others. -/
theorem scratch_eq (c : Dev nD) (hs : ScalesOk m c) : ∀ (n : Nat) (hn : n < cfg0.N), (outsAt0 m c n hn).2 = held m c n hn := by
  intro n
  induction n using Nat.strong_induction_on with
  | _ n ih =>
    intro hn
    by_cases h0 : n % 6 = 0
    · refine (congrArg Prod.snd (outsAt0_A m c ⟨n, hn⟩ h0)).trans ?_
      unfold sout0_A_0
      dsimp only
      rw [View.read_writes_junk_eq_canon]
      exact sout_A c _ _ _ _ _ _ _ _ _ _ _ _ _ _ _ (block_scales_ok m c hs _)
    · rw [outsAt0_B m c ⟨n, hn⟩ h0]
      show (outsAt0 m c (n - 1) _).2 = _
      rw [ih (n - 1) (by omega) _]
      exact held_congr m c _ _ _ _ (by omega)

/-- The output block after every point. -/
theorem block_apply (c : Dev nD) (hs : ScalesOk m c) (n : Nat) (hn : n < cfg0.N) (r : Fin 1024) (l : Fin 512) :
    (outsAt0 m c n hn).1 (ix2 r l) = ∑ k : Fin 7168, rows m c ⟨n, hn⟩ (ix2 r k) * held m c n hn (ix2 k (Tail.column l)) := by
  by_cases h0 : n % 6 = 0
  · refine (congrFun (congrArg Prod.fst (outsAt0_A m c ⟨n, hn⟩ h0)) _).trans ?_
    unfold out0_A_3
    dsimp only
    rw [View.read_writes_junk_eq_canon]
    exact out_A c _ _ _ _ _ _ _ _ _ _ _ _ _ _ _ (block_scales_ok m c hs _) r l
  · refine (congrFun (congrArg Prod.fst (outsAt0_B m c ⟨n, hn⟩ h0)) _).trans ?_
    unfold out0_B_3
    dsimp only
    rw [View.read_writes_junk_eq_canon]
    refine (out_B c _ _ _ _ _ _ _ _ _ _ _ _ _ _ _ _ r l).trans ?_
    have e : (outsAt0 m c (n - 1) (Nat.lt_of_le_of_lt (Nat.sub_le _ _) hn)).2 = held m c n hn :=
      (scratch_eq m c hs (n - 1) _).trans (held_congr m c _ _ _ _ (by omega))
    refine Finset.sum_congr rfl fun k _ => ?_
    exact congrArg (fun w : EReal => rows m c ⟨n, hn⟩ (ix2 r k) * w) (congrFun e _)

/-- The product, at row `R` and column `C`, of a left operand with the weights that codes and scales stand for. -/
def entry (a : FVec Ideal S6144x7168 .bf16) (w : IVec S7168x9216 8) (s : IVec S224x18432 8) (R : Fin 6144) (C : Fin 18432) : EReal :=
  ∑ k : Fin 7168, a (ix2 R k) * weightAt w s k C

/-- The result: row `R`, column `C` is the sum over `k` of the left operand times the weight in row `k`, column `C`. -/
theorem result_apply (c : Dev nD) (hs : ScalesOk m c) (R : Fin 6144) (C : Fin 18432) :
    (G3 m c : FVec Ideal S6144x18432 .bf16) (ix2 R C) = entry (m ((c : Thread nD τ).loc main_arg0)) (m ((c : Thread nD τ).loc main_arg1)) (m ((c : Thread nD τ).loc main_arg2)) R C := by
  have hN : cfg0.N = 216 := N_0
  have hR := R.isLt
  have hC := C.isLt
  obtain ⟨n, hn0⟩ : ∃ n, n = R.val / 1024 + 6 * (C.val / 512) := ⟨_, rfl⟩
  have hn : n < cfg0.N := by omega
  have hp : pt3Of (ix2 R C) = n := by
    show 1 * (R.val / 1024 - 0) + 6 * (C.val / 512 - 0) = n
    omega
  unfold G3
  rw [dif_pos (by rw [hp]; exact hn), fold0_congr m c _ _ n (by omega) hp, ← outsAt0_sweep m c n hn]
  have hl : loc3Of (ix2 R C) = ix2 (⟨R.val % 1024, by omega⟩ : Fin 1024) (⟨C.val % 512, by omega⟩ : Fin 512) := by
    funext a
    match a with
    | ⟨0, _⟩ => rfl
    | ⟨1, _⟩ => rfl
  rw [hl]
  refine (block_apply m c hs n hn _ _).trans ?_
  refine Finset.sum_congr rfl fun k _ => ?_
  have ea := rows_apply m c ⟨n, hn⟩ (⟨R.val % 1024, by omega⟩ : Fin 1024) k R (by show R.val = 1024 * (n % 6) + R.val % 1024; omega)
  refine congrArg₂ (fun x y : EReal => x * y) ea ?_
  unfold held
  rw [wdec_apply m c ⟨n, hn⟩ k _ C (by show C.val = 512 * (n / 6) + C.val % 512; omega)]

end Cert.KernelIdeal.Blocks

end
-- ==== Proof.RefValue.lean ====
/- What the reference leaves in its result, over the reals: the same product of the left operand with the weight matrix. -/
module

public import proofs.«01_k».proof.Proof.KernelValue
public import proofs.«01_k».proof.Proof.Gen.ReferenceIdeal.Run
public import Idealize.ShloMosaic.Lib.StackMember
public import Idealize.ShloMosaic.Lib.Pointwise.ShapeOpsCore

@[expose] public section

noncomputable section

namespace Cert.ReferenceIdeal.Decoded

open Idealize.ShloMosaic hiding ix2 ix3
open Idealize.ShloMosaic.ValueIdx Idealize.ShloMosaic.TcCoe
open Cert Cert.ReferenceIdeal Cert.ReferenceIdeal.Gen

/-! ## The reference's term, in named parts -/

/-- One number at every index of the packed shape. -/
def word (n : BitVec 32) : IVec S7168x9216 32 := broadcastInDim S7168x9216 ![] bcast_S_S7168x9216 (constantI S_ 32 n)

/-- One float at every index of the packed shape. -/
def number (n : BitVec 32) : FVec Ideal S7168x9216 .f32 := broadcastInDim S7168x9216 ![] bcast_S_S7168x9216 (constant S_ .f32 n)

/-- Where bit `k` of the codes is set. -/
def bit (c : IVec S7168x9216 32) (k : BitVec 32) : IVec S7168x9216 1 := cmpi .eq (andi (Host.shrsi c (word k)) (word 1#32)) (word 1#32)

/-- Where bit 0 of the codes is set. -/
def bit0 (c : IVec S7168x9216 32) : IVec S7168x9216 1 := cmpi .eq (andi c (word 1#32)) (word 1#32)

/-- The magnitudes of the codes. -/
def magnitude (c : IVec S7168x9216 32) : FVec Ideal S7168x9216 .f32 :=
  select (bit c 2#32)
    (select (bit c 1#32) (select (bit0 c) (number 0x40C00000#32) (number 0x40800000#32)) (select (bit0 c) (number 0x40400000#32) (number 0x40000000#32)))
    (select (bit c 1#32) (select (bit0 c) (number 0x3FC00000#32) (number 0x3F800000#32)) (select (bit0 c) (number 0x3F000000#32) (number 0x00000000#32)))

/-- The numbers of the codes, with their signs. -/
def numbers (c : IVec S7168x9216 32) : FVec Ideal S7168x9216 .f32 := id (select (bit c 3#32) (Host.negf (magnitude c)) (magnitude c))

/-- The powers of two of one column parity's scale bytes. -/
def powers (s : IVec S224x9216 8) : FVec Ideal S224x9216 .f32 :=
  Host.powf (broadcastInDim S224x9216 ![] bcast_S_S224x9216 (constant S_ .f32 0x40000000#32))
    (sitofp .f32 (subi (extui 32 s natLt_8_32) (broadcastInDim S224x9216 ![] bcast_S_S224x9216 (constantI S_ 32 127#32))))

/-- The weights of one column parity: each number times the power of two of its block of 32 rows. -/
def weights (c : IVec S7168x9216 32) (s : IVec S224x9216 8) : FVec Ideal S7168x9216 .bf16 :=
  truncf .bf16 (shapeCast S7168x9216 (mulf (shapeCast S224x32x9216 (numbers c) shapeCasts_S7168x9216_S224x32x9216)
    (broadcastInDim S224x32x9216 ![0, 1, 2] bcast_S224x1x9216_S224x32x9216_0_1_2
      (broadcastInDim S224x1x9216 ![0, 2] bcast_S224x9216_S224x1x9216_0_2 (powers s)))) shapeCasts_S224x32x9216_S7168x9216) bitsLt_bf16_f32

/-- The codes in the low four bits of the bytes. -/
def low (x : IVec S7168x9216 8) : IVec S7168x9216 32 := andi (extui 32 x natLt_8_32) (word 15#32)

/-- The codes in the high four bits of the bytes. -/
def high (x : IVec S7168x9216 8) : IVec S7168x9216 32 := Host.shrsi (extui 32 x natLt_8_32) (word 4#32)

/-- The scale bytes of the even columns. -/
def evens (s : IVec S224x18432 8) : IVec S224x9216 8 := Host.slice S224x9216 ![0, 0] ![1, 2] s slicesBy_S224x18432_S224x9216_0s1_0s2

/-- The scale bytes of the odd columns. -/
def odds (s : IVec S224x18432 8) : IVec S224x9216 8 := Host.slice S224x9216 ![0, 1] ![1, 2] s slicesBy_S224x18432_S224x9216_0s1_1s2

/-- The product of the left operand with one parity's weights. -/
def product (a : FVec Ideal S6144x7168 .bf16) (w : FVec Ideal S7168x9216 .bf16) : FVec Ideal S6144x9216 .f32 :=
  Host.dotGeneral dot_S6144x7168_S7168x9216_S6144x9216_1_0_0_1_n_n none a w

/-- A matrix with a last axis of one. -/
def column (p : FVec Ideal S6144x9216 .f32) : FVec Ideal S6144x9216x1 .f32 :=
  broadcastInDim S6144x9216x1 ![0, 1] bcast_S6144x9216_S6144x9216x1_0_1 p

/-- Two matrices interleaved column by column. -/
def interleave (p q : FVec Ideal S6144x9216 .f32) : FVec Ideal S6144x18432 .bf16 :=
  truncf .bf16 (shapeCast S6144x18432 (concatenate S6144x9216x2 2 [⟨S6144x9216x1, column p⟩, ⟨S6144x9216x1, column q⟩]
    concatenates_S6144x9216x1_S6144x9216x1_S6144x9216x2_d2) shapeCasts_S6144x9216x2_S6144x18432) bitsLt_bf16_f32

/-- The reference's result in its named parts. -/
def result (a : FVec Ideal S6144x7168 .bf16) (x : IVec S7168x9216 8) (s : IVec S224x18432 8) : FVec Ideal S6144x18432 .bf16 :=
  interleave (product a (weights (low x) (evens s))) (product a (weights (high x) (odds s)))

theorem res_eq (m : (ℓ : Loc nD τ sig) → Buf (Elt Ideal) ℓ) (c : Dev nD) :
    Value.res_out0 m c = result (m ((c : Thread nD τ).loc main_arg0)) (m ((c : Thread nD τ).loc main_arg1)) (m ((c : Thread nD τ).loc main_arg2)) :=
  rfl

/-! ## The parts, index by index -/

/-- Over the reals a change of format leaves a value as it is. -/
theorem trunc_apply {t : Shape} (x : FVec Ideal t .f32) (h : FTy.bits .bf16 < FTy.bits .f32) (i : t.Idx) : truncf .bf16 x h i = x i := rfl

theorem numbers_apply (c : IVec S7168x9216 32) (i : S7168x9216.Idx) : numbers c i = Decode.pick (c i) := rfl

theorem low_apply (x : IVec S7168x9216 8) (i : S7168x9216.Idx) : low x i = Decode.codeWord 0 (x i) := rfl

theorem high_apply (x : IVec S7168x9216 8) (i : S7168x9216.Idx) : high x i = Decode.codeWord 1 (x i) := rfl

theorem powers_apply (s : IVec S224x9216 8) (i : S224x9216.Idx) : powers s i = Decode.scale (s i) :=
  (show powers s i = Ideal.pow (Ideal.ofBits .f32 0x40000000#32) (((IntOp.subi ((s i).setWidth 32) 127#32).toInt : ℝ) : EReal) from rfl).trans
    (Decode.scale_pow (s i))

theorem evens_apply (s : IVec S224x18432 8) (k : Fin 224) (j : Fin 9216) (C : Fin 18432) (hC : C.val = 2 * j.val) :
    evens s (ix2 k j) = s (ix2 k C) := by
  unfold evens
  rw [Host.slice_apply]
  refine congrArg s (funext fun a => Fin.ext ?_)
  match a with
  | ⟨0, _⟩ => show 0 + 1 * k.val = k.val; omega
  | ⟨1, _⟩ => show 0 + 2 * j.val = C.val; omega

theorem odds_apply (s : IVec S224x18432 8) (k : Fin 224) (j : Fin 9216) (C : Fin 18432) (hC : C.val = 2 * j.val + 1) :
    odds s (ix2 k j) = s (ix2 k C) := by
  unfold odds
  rw [Host.slice_apply]
  refine congrArg s (funext fun a => Fin.ext ?_)
  match a with
  | ⟨0, _⟩ => show 0 + 1 * k.val = k.val; omega
  | ⟨1, _⟩ => show 1 + 2 * j.val = C.val; omega

/-- One weight: the number of its code times the power of two of its scale byte. -/
theorem weights_apply (c : IVec S7168x9216 32) (s : IVec S224x9216 8) (k : Fin 7168) (j : Fin 9216) :
    weights c s (ix2 k j) = Decode.pick (c (ix2 k j))
      * Decode.scale (s (ix2 (⟨k.val / 32, by have := k.isLt; omega⟩ : Fin 224) j)) := by
  have hk := k.isLt
  unfold weights
  rw [trunc_apply, shapeCast_apply _ _ (ix2 k j) (ix3 (⟨k.val / 32, by omega⟩ : Fin 224) (⟨k.val % 32, by omega⟩ : Fin 32) j)
    (by rw [Shape.rowMajor_val_three, Shape.rowMajor_val_two]; show (k.val / 32 * 32 + k.val % 32) * 9216 + j.val = k.val * 9216 + j.val; omega)]
  refine congrArg₂ (fun x y : EReal => x * y) ?_ ?_
  · refine (shapeCast_apply (numbers c) _ _ (ix2 k j)
      (by rw [Shape.rowMajor_val_three, Shape.rowMajor_val_two]; show k.val * 9216 + j.val = (k.val / 32 * 32 + k.val % 32) * 9216 + j.val; omega)).trans ?_
    exact numbers_apply c _
  · refine (broadcastInDim_apply _ _ _ _ (ix3 (⟨k.val / 32, by omega⟩ : Fin 224) (0 : Fin 1) j) ?_).trans ?_
    · intro a
      match a with
      | ⟨0, _⟩ => rfl
      | ⟨1, _⟩ => rfl
      | ⟨2, _⟩ => rfl
    refine (broadcastInDim_apply _ _ _ _ (ix2 (⟨k.val / 32, by omega⟩ : Fin 224) j) ?_).trans (powers_apply s _)
    intro a
    match a with
    | ⟨0, _⟩ => rfl
    | ⟨1, _⟩ => rfl

theorem product_apply (a : FVec Ideal S6144x7168 .bf16) (w : FVec Ideal S7168x9216 .bf16) (R : Fin 6144) (j : Fin 9216) :
    product a w (ix2 R j) = ∑ k : Fin 7168, a (ix2 R k) * w (ix2 k j) :=
  StackMember.dotGeneral_plain_apply none a w R j

theorem column_apply (p : FVec Ideal S6144x9216 .f32) (R : Fin 6144) (j : Fin 9216) (z : Fin 1) : column p (ix3 R j z) = p (ix2 R j) := by
  refine broadcastInDim_apply _ _ _ _ (ix2 R j) ?_
  intro a
  match a with
  | ⟨0, _⟩ => rfl
  | ⟨1, _⟩ => rfl

theorem interleave_even (p q : FVec Ideal S6144x9216 .f32) (R : Fin 6144) (C : Fin 18432) (j : Fin 9216) (hC : C.val = 2 * j.val) :
    interleave p q (ix2 R C) = p (ix2 R j) := by
  unfold interleave
  rw [trunc_apply, shapeCast_apply _ _ (ix2 R C) (ix3 R j (0 : Fin 2))
    (by rw [Shape.rowMajor_val_three, Shape.rowMajor_val_two]; show (R.val * 9216 + j.val) * 2 + 0 = R.val * 18432 + C.val; omega)]
  refine (concatenate_pair_apply_left (t := S6144x9216x2) 2 (column p) (column q) _ (ix3 R j (0 : Fin 2)) rfl (ix3 R j (0 : Fin 1)) ?_).trans (column_apply p R j 0)
  intro b
  match b with
  | ⟨0, _⟩ => rfl
  | ⟨1, _⟩ => rfl
  | ⟨2, _⟩ => rfl

theorem interleave_odd (p q : FVec Ideal S6144x9216 .f32) (R : Fin 6144) (C : Fin 18432) (j : Fin 9216) (hC : C.val = 2 * j.val + 1) :
    interleave p q (ix2 R C) = q (ix2 R j) := by
  unfold interleave
  rw [trunc_apply, shapeCast_apply _ _ (ix2 R C) (ix3 R j (1 : Fin 2))
    (by rw [Shape.rowMajor_val_three, Shape.rowMajor_val_two]; show (R.val * 9216 + j.val) * 2 + 1 = R.val * 18432 + C.val; omega)]
  refine (concatenate_pair_apply_right (t := S6144x9216x2) 2 (column p) (column q) _ (ix3 R j (1 : Fin 2)) rfl rfl (ix3 R j (0 : Fin 1)) ?_ rfl).trans (column_apply q R j 0)
  intro b hb
  match b with
  | ⟨0, _⟩ => rfl
  | ⟨1, _⟩ => rfl
  | ⟨2, _⟩ => exact absurd rfl hb

/-- The reference's result is the product of the left operand with the weights that the codes and scales stand for. -/
theorem result_apply (a : FVec Ideal S6144x7168 .bf16) (x : IVec S7168x9216 8) (s : IVec S224x18432 8) (R : Fin 6144) (C : Fin 18432) :
    result a x s (ix2 R C) = KernelIdeal.Blocks.entry a x s R C := by
  have hC := C.isLt
  have hj : C.val / 2 < 9216 := by omega
  unfold result KernelIdeal.Blocks.entry
  rcases (by omega : C.val % 2 = 0 ∨ C.val % 2 = 1) with h | h
  · rw [interleave_even _ _ R C ⟨C.val / 2, hj⟩ (by show C.val = 2 * (C.val / 2); omega), product_apply]
    refine Finset.sum_congr rfl fun k _ => congrArg (fun y : EReal => a (ix2 R k) * y) ?_
    rw [weights_apply, low_apply, Decode.pick_codeWord 0 (by omega), evens_apply s _ _ C (by show C.val = 2 * (C.val / 2); omega)]
    unfold KernelIdeal.Blocks.weightAt
    rw [h]
  · rw [interleave_odd _ _ R C ⟨C.val / 2, hj⟩ (by show C.val = 2 * (C.val / 2) + 1; omega), product_apply]
    refine Finset.sum_congr rfl fun k _ => congrArg (fun y : EReal => a (ix2 R k) * y) ?_
    rw [weights_apply, high_apply, Decode.pick_codeWord 1 (by omega), odds_apply s _ _ C (by show C.val = 2 * (C.val / 2) + 1; omega)]
    unfold KernelIdeal.Blocks.weightAt
    rw [h]

end Cert.ReferenceIdeal.Decoded

end
-- ==== Proof.ScalesTile.lean ====
/- The scale bytes of thirty-two rows as one closed form: the kernel's trip computes, for each of 28 column tiles, the largest
   magnitudes of the rotated tile and their exponents, and puts the exponents of all tiles side by side. -/
module

public import proofs.«01_k».proof.Proof.Gen.ScalesIdeal.Value
public import Idealize.ShloMosaic.Lib.Pipeline.Value
public import Idealize.ShloMosaic.Lib.Pipeline.ValueKit.Tiles
public import Idealize.ShloMosaic.Lib.Pointwise.ElementwiseCore
public import Idealize.ShloMosaic.Lib.MatmulPlain
public import Idealize.ShloMosaic.Lib.KernelVsHost

@[expose] public section

noncomputable section

namespace Cert.ScalesIdeal.Tile

open Idealize.ShloMosaic Idealize.ShloMosaic.ValueIdx Idealize.ShloMosaic.TcCoe Idealize.ShloMosaic.Tactic
open Cert.ScalesIdeal Cert.ScalesIdeal.Gen

variable {F : FTy → Type} [FloatOps F]

/-! ## One tile -/

/-- A tile of 256 columns rotated. -/
def acc (x : Vec F S32x256 .bf16) (h : Vec F S256x256 .bf16) : FVec F S32x256 .f32 :=
  matmul dot_S32x256_S256x256_S32x256_1_0_0_1_n_n none x (shapeCast S256x256 h shapeCasts_S256x256_S256x256)
    (constant S32x256 .f32 0x00000000#32)

/-- The larger magnitude of each lane's two columns. -/
def both (p : FVec F S32x256 .f32) : FVec F S32x128 .f32 :=
  maximumf (absf (extractStridedSlice S32x128 ![0, 0] p slices_S32x256_o0_0_S32x128))
    (absf (extractStridedSlice S32x128 ![0, 128] p slices_S32x256_o0_128_S32x128))

/-- The larger of each lane and the lane `n` before it. -/
def roll (n : BitVec 32) (v : FVec F S32x128 .f32) : FVec F S32x128 .f32 :=
  maximumf v (dynamicRotate 1 n none v rotates_S32x128_d1)

/-- The largest magnitude of each lane's block. -/
def largest (p : FVec F S32x256 .f32) : FVec F S32x128 .f32 := roll 8#32 (roll 16#32 (roll 32#32 (roll 64#32 (both p))))

/-- The largest magnitudes times the rotation's gain. -/
def scaled (p : FVec F S32x256 .f32) : FVec F S32x128 .f32 :=
  mulf (largest p) (broadcast S32x128 (Scalar.ofBits .f32 0x3E3504F3#32))

/-- One step of the exponents' search. -/
def step (a : FVec F S32x128 .f32) (k : BitVec 32) (e : IVec S32x128 32) : IVec S32x128 32 :=
  select (cmpf .oge a (bitcastToFloat .f32 (shli (addi e (broadcast S32x128 k)) (broadcast S32x128 23#32))))
    (addi e (broadcast S32x128 k)) e

/-- The exponents, in a float's exponent field. -/
def fields (a : FVec F S32x128 .f32) : IVec S32x128 32 :=
  shli (step a 1#32 (step a 2#32 (step a 4#32 (step a 8#32 (step a 16#32 (step a 32#32 (step a 64#32 (step a 128#32
    (broadcast S32x128 0#32))))))))) (broadcast S32x128 23#32)

/-! ## All tiles -/

/-- The lane's number divided by eight, rounded down. -/
def group (lane : IVec S32x128 32) : IVec S32x128 32 :=
  select (andi
      (cmpi .ne (subi (extui 32 (cmpi .sgt lane (broadcast S32x128 0#32)) natLt_1_32) (extui 32 (cmpi .slt lane (broadcast S32x128 0#32)) natLt_1_32))
        (broadcast S32x128 (Scalar.subi (Scalar.extui (Scalar.cmpi .sgt 8#32 0#32)) (Scalar.extui (Scalar.cmpi .slt 8#32 0#32)))))
      (cmpi .ne (remsi lane (broadcast S32x128 8#32)) (broadcast S32x128 0#32)))
    (subi (divsi lane (broadcast S32x128 8#32)) (broadcast S32x128 1#32)) (divsi lane (broadcast S32x128 8#32))

/-- The exponents of `n + 1` tiles: group `s` of the lanes from tile `s`. -/
def chain (lane : IVec S32x128 32) (f : Nat → IVec S32x128 32) : Nat → IVec S32x128 32
  | 0 => f 0
  | n + 1 => select (cmpi .eq (group lane) (broadcast S32x128 (BitVec.ofNat 32 (n + 1)))) (f (n + 1)) (chain lane f n)

/-- The exponents of all tiles side by side, in lanes 0 to 223. -/
def joined (lane : IVec S32x128 32) (f : Nat → IVec S32x128 32) : IVec S32x256 32 :=
  concatenate S32x256 1 [⟨S32x128, shrsi (chain lane f 15) (broadcast S32x128 23#32)⟩,
    ⟨S32x128, shrsi (chain lane (fun n => f (16 + n)) 11) (broadcast S32x128 23#32)⟩] concatenates_S32x128_S32x128_S32x256_d1

/-- The scale bytes of thirty-two rows, of the exponents of their tiles. -/
def bytes (lane : IVec S32x128 32) (f : Nat → IVec S32x128 32) : IVec S32x224 8 :=
  trunci 8 (extractStridedSlice S32x224 ![0, 0] (select (cmpi .eq (joined lane f) (broadcast S32x256 0#32)) (broadcast S32x256 127#32)
    (andi (subi (joined lane f) (broadcast S32x256 2#32)) (broadcast S32x256 255#32))) slices_S32x256_o0_0_S32x224) natLt_8_32

/-- A tile of thirty-two rows as the kernel loads it. -/
abbrev ldx (X : Vec F S256x7168 .bf16) (off : Fin 2 → Nat) (inb : ∀ a, off a + S32x256.size a ≤ S256x7168.size a) : Vec F S32x256 .bf16 :=
  View.ld X (Rect.unit (s := S256x7168) off S32x256.size inb)

/-- The tiles that trip `k` loads. -/
def tiles (X : Vec F S256x7168 .bf16) (k : Fin k0_t1_loop.trips) : List (Vec F S32x256 .bf16) :=
  [ldx X (k0_off1 k) (k0_off1_inb k),
    ldx X (k0_off4 k) (k0_off4_inb k),
    ldx X (k0_off7 k) (k0_off7_inb k),
    ldx X (k0_off10 k) (k0_off10_inb k),
    ldx X (k0_off13 k) (k0_off13_inb k),
    ldx X (k0_off16 k) (k0_off16_inb k),
    ldx X (k0_off19 k) (k0_off19_inb k),
    ldx X (k0_off22 k) (k0_off22_inb k),
    ldx X (k0_off25 k) (k0_off25_inb k),
    ldx X (k0_off28 k) (k0_off28_inb k),
    ldx X (k0_off31 k) (k0_off31_inb k),
    ldx X (k0_off34 k) (k0_off34_inb k),
    ldx X (k0_off37 k) (k0_off37_inb k),
    ldx X (k0_off40 k) (k0_off40_inb k),
    ldx X (k0_off43 k) (k0_off43_inb k),
    ldx X (k0_off46 k) (k0_off46_inb k),
    ldx X (k0_off49 k) (k0_off49_inb k),
    ldx X (k0_off52 k) (k0_off52_inb k),
    ldx X (k0_off55 k) (k0_off55_inb k),
    ldx X (k0_off58 k) (k0_off58_inb k),
    ldx X (k0_off61 k) (k0_off61_inb k),
    ldx X (k0_off64 k) (k0_off64_inb k),
    ldx X (k0_off67 k) (k0_off67_inb k),
    ldx X (k0_off70 k) (k0_off70_inb k),
    ldx X (k0_off73 k) (k0_off73_inb k),
    ldx X (k0_off76 k) (k0_off76_inb k),
    ldx X (k0_off79 k) (k0_off79_inb k),
    ldx X (k0_off82 k) (k0_off82_inb k)]

/-- The exponents of tile `n`. -/
def tileFields (X : Vec F S256x7168 .bf16) (H : Vec F S256x256 .bf16) (k : Fin k0_t1_loop.trips) (n : Nat) : IVec S32x128 32 :=
  fields (scaled (acc ((tiles X k).getD n (ldx X (k0_off1 k) (k0_off1_inb k)))
    (View.ld H (Rect.unit (s := S256x256) ![0, 0] S256x256.size (by decide)))))

/-- The store of trip `k`. -/
def piece (X : Vec F S256x7168 .bf16) (H : Vec F S256x256 .bf16) (lane : IVec S32x128 32) (k : Fin k0_t1_loop.trips) :
    View.Piece (Elt F) S256x224 .i8 :=
  ⟨Rect.unit (s := S256x224) (k0_off85 k) S32x224.size (k0_off85_inb k), bytes lane (tileFields X H k)⟩

set_option maxRecDepth 100000 in
/-- The trip's only store of scale bytes is that one. -/
theorem trip_pieces (𝒱 : Variants) (c : Dev nD) (bd : Option 𝒱.V) (i : grid0.Coords) (arg1 : Memref sig .tc .vmem S256x7168 .bf16) (harg1 : arg1.IsWhole) (arg2 : Memref sig .tc .vmem S256x256 .bf16) (harg2 : arg2.IsWhole)
    (arg3 : Memref sig .tc .vmem S256x7168 .i8) (harg3 : arg3.IsWhole) (arg4 : Memref sig .tc .vmem S256x224 .i8) (harg4 : arg4.IsWhole)
    (arg5 : Memref sig .tc .vmem S256x7168 .bf16) (harg5 : arg5.IsWhole) (v0 : IVec S32x128 32) (v24 : IVec S32x128 32)
    (v43 : IVec S32x128 32) (c32_i32_9 : BitVec 32) (v62 : IVec S32x128 32) (X_arg1 : BufTy.Contents (Elt F) arg1.view.ty)
    (X_arg2 : BufTy.Contents (Elt F) arg2.view.ty) (k : Fin k0_t1_loop.trips) :
    (trip_k0_t1 (F := F) 𝒱 c bd i arg1 harg1 arg2 harg2 arg3 harg3 arg4 harg4 arg5 harg5 v0 v24 v43 c32_i32_9 v62 X_arg1 X_arg2 k).2.1
      = [piece (arg1.view.read (Elt F) X_arg1) (arg2.view.read (Elt F) X_arg2) v62 k] := by
  unfold trip_k0_t1
  sl_kernel_rfl

/-- The lane numbers. -/
def lanes : IVec S32x128 32 := iota .tc S32x128 32 [1] iota_S32x128_d1_w32

/-- The stores of the first `n` trips, last first. -/
def pieces (X : Vec F S256x7168 .bf16) (H : Vec F S256x256 .bf16) : (n : Nat) → n ≤ k0_t1_loop.trips → List (View.Piece (Elt F) S256x224 .i8)
  | 0, _ => []
  | n + 1, h => piece X H lanes ⟨n, h⟩ :: pieces X H n (Nat.le_of_succ_le h)

theorem mem_pieces (X : Vec F S256x7168 .bf16) (H : Vec F S256x256 .bf16) (q : View.Piece (Elt F) S256x224 .i8) :
    ∀ (n : Nat) (hn : n ≤ k0_t1_loop.trips), q ∈ pieces X H n hn → ∃ k, q = piece X H lanes k
  | 0, _, h => absurd h List.not_mem_nil
  | n + 1, hn, h => by
    rcases List.mem_cons.mp h with h | h
    · exact ⟨⟨n, hn⟩, h⟩
    · exact mem_pieces X H q n (Nat.le_of_succ_le hn) h

set_option maxRecDepth 100000 in
/-- The stores of scale bytes at one grid point. -/
theorem run_pieces (c : Dev nD) (i : grid0.Coords) (arg1 : Memref sig .tc .vmem S256x7168 .bf16) (harg1 : arg1.IsWhole) (arg2 : Memref sig .tc .vmem S256x256 .bf16) (harg2 : arg2.IsWhole)
    (arg3 : Memref sig .tc .vmem S256x7168 .i8) (harg3 : arg3.IsWhole) (arg4 : Memref sig .tc .vmem S256x224 .i8) (harg4 : arg4.IsWhole)
    (arg5 : Memref sig .tc .vmem S256x7168 .bf16) (harg5 : arg5.IsWhole) (x0 : Vec F S256x7168 .bf16) (x1 : Vec F S256x256 .bf16) :
    (kernelRun0_A (F := F) c i arg1 harg1 arg2 harg2 arg3 harg3 arg4 harg4 arg5 harg5 x0 x1).2.1
      = pieces (arg1.view.read (Elt F) (harg1.unread x0)) (arg2.view.read (Elt F) (harg2.unread x1)) k0_t1_loop.trips le_rfl := by
  sl_kernel_rfl

end Cert.ScalesIdeal.Tile

end
-- ==== Proof.ScalesExponent.lean ====
/- The arithmetic of one scale byte: the exponent of a block's largest magnitude, found by the kernel as a search through
   eight bits and by the reference as a logarithm's floor. Nothing here is about the programs' layouts. -/
module

public import Idealize.ShloMosaic.PureOps.Ideal

@[expose] public section

noncomputable section

namespace Cert.Exponent

open Idealize.ShloMosaic

/-! ## The thresholds: a float's exponent field read as a number -/

/-- The float with exponent field `n` and nothing else, as a word. -/
def field (n : Nat) : BitVec 32 := IntOp.shli .vector (BitVec.ofNat 32 n) 23#32

/-- The number of that float. -/
def threshold (n : Nat) : EReal := Ideal.ofBits .f32 (field n)

theorem field_parts : ∀ n : Fin 256,
    ((field n.val).extractLsb' 31 1 == 1#1) = false ∧ ((field n.val).extractLsb' 23 8).toNat = n.val ∧ ((field n.val).extractLsb' 0 23).toNat = 0 := by
  decide +kernel

theorem threshold_pow (n : Nat) (h1 : 1 ≤ n) (h2 : n ≤ 254) : threshold n = (((2 : ℝ) ^ ((n : Int) - 127) : ℝ) : EReal) := by
  obtain ⟨e1, e2, e3⟩ := field_parts ⟨n, by omega⟩
  simp only [] at e1 e2 e3
  unfold threshold Ideal.ofBits Ideal.ieee
  simp only [e1, e2, e3, Nat.reduceAdd]
  rw [if_neg (by omega), if_neg (by omega)]
  refine congrArg Real.toEReal ?_
  have e : (n : Int) - 127 = 23 + ((n : Int) - (2 ^ (8 - 1) - 1) - ((23 : Nat) : Int)) := by norm_num
  rw [e, zpow_add₀ (two_ne_zero : (2 : ℝ) ≠ 0)]
  norm_num

theorem threshold_top : threshold 255 = ⊤ := by
  obtain ⟨e1, e2, e3⟩ := field_parts ⟨255, by omega⟩
  simp only [] at e1 e2 e3
  unfold threshold Ideal.ofBits Ideal.ieee
  simp only [e1, e2, e3, Nat.reduceAdd]
  norm_num

theorem threshold_pos (n : Nat) (h1 : 1 ≤ n) (h2 : n ≤ 255) : 0 < threshold n := by
  rcases (by omega : n ≤ 254 ∨ n = 255) with h | rfl
  · rw [threshold_pow n h1 h]
    exact_mod_cast zpow_pos (two_pos : (0 : ℝ) < 2) _
  · rw [threshold_top]; exact EReal.zero_lt_top

/-! ## The search -/

/-- One step of the search: the exponent grows by `k` where the number reaches that exponent's power of two. -/
def step (a : EReal) (k e : BitVec 32) : BitVec 32 :=
  Scalar.select (Ideal.cmp .oge a (Ideal.ofBits .f32 (IntOp.shli .vector (IntOp.addi e k) 23#32))) (IntOp.addi e k) e

/-- The exponent that the search finds. -/
def search (a : EReal) : BitVec 32 :=
  step a 1#32 (step a 2#32 (step a 4#32 (step a 8#32 (step a 16#32 (step a 32#32 (step a 64#32 (step a 128#32 0#32)))))))

/-- What is known of the exponent found so far, with steps below `k` to come. -/
def Found (a : EReal) (k : Nat) (w : BitVec 32) : Prop :=
  ∃ e : Nat, w = BitVec.ofNat 32 e ∧ e + k ≤ 256 ∧ (e = 0 ∨ threshold e ≤ a) ∧ (e + k = 256 ∨ a < threshold (e + k))

theorem step_found (a : EReal) (k : Nat) (w : BitVec 32) (h : Found a (2 * k) w) (hk : 1 ≤ k) : Found a k (step a (BitVec.ofNat 32 k) w) := by
  obtain ⟨e, rfl, h1, h2, h3⟩ := h
  have hs : IntOp.addi (BitVec.ofNat 32 e) (BitVec.ofNat 32 k) = BitVec.ofNat 32 (e + k) := (BitVec.ofNat_add e k).symm
  unfold step
  rw [hs]
  show Found a k (Scalar.select (Ideal.cmp .oge a (threshold (e + k))) _ _)
  by_cases h : threshold (e + k) ≤ a
  · have : Ideal.cmp .oge a (threshold (e + k)) = 1#1 := by simp [Ideal.cmp, h]
    rw [this]
    exact ⟨e + k, rfl, by omega, Or.inr h, by rw [show e + k + k = e + 2 * k by omega]; exact h3⟩
  · have : Ideal.cmp .oge a (threshold (e + k)) = 0#1 := by simp [Ideal.cmp, h]
    rw [this]
    exact ⟨e, rfl, by omega, h2, Or.inr (not_le.mp h)⟩

theorem search_found (a : EReal) : Found a 1 (search a) := by
  have h0 : Found a (2 * 128) 0#32 := ⟨0, rfl, by omega, Or.inl rfl, Or.inl rfl⟩
  have h1 := step_found a 128 _ h0 (by omega)
  have h2 := step_found a 64 _ h1 (by omega)
  have h3 := step_found a 32 _ h2 (by omega)
  have h4 := step_found a 16 _ h3 (by omega)
  have h5 := step_found a 8 _ h4 (by omega)
  have h6 := step_found a 4 _ h5 (by omega)
  have h7 := step_found a 2 _ h6 (by omega)
  exact step_found a 1 _ h7 (by omega)

/-! ## The two bytes -/

/-- The kernel's byte: the exponent put into a float's exponent field and taken out again, then less two, or 127 for zero. -/
def kernelByte (a : EReal) : BitVec 8 :=
  let e := IntOp.shrsi .vector (IntOp.shli .vector (search a) 23#32) 23#32
  (Scalar.select (IntOp.cmpi .eq e 0#32) 127#32 (IntOp.andi (IntOp.subi e 2#32) 255#32)).setWidth 8

/-- The reference's byte: the floor of the logarithm in base two, plus one, less three, or zero for zero; then plus 127. -/
def referenceByte (a : EReal) : BitVec 8 :=
  (IntOp.addi (Scalar.select (Ideal.cmp .oeq a (Ideal.ofBits .f32 0x00000000#32)) 0#32
    (IntOp.subi (IntOp.addi (Ideal.fptosi 32 (Ideal.liftRound Int.floor (Ideal.div (Ideal.log a) (Ideal.log (Ideal.ofBits .f32 0x40000000#32))))) 1#32) 3#32))
    127#32).setWidth 8

/-- The numbers on which the two agree: zero, and those between the smallest and the largest normal float's binades. -/
def InRange (a : EReal) : Prop := a = 0 ∨ (threshold 1 ≤ a ∧ a < (((2 : ℝ) ^ (128 : Int) : ℝ) : EReal))

theorem bytes_of_exponent : ∀ n : Fin 255, 1 ≤ n.val →
    (Scalar.select (IntOp.cmpi .eq (IntOp.shrsi .vector (field n.val) 23#32) 0#32) 127#32
        (IntOp.andi (IntOp.subi (IntOp.shrsi .vector (field n.val) 23#32) 2#32) 255#32)).setWidth 8
      = (IntOp.addi (IntOp.subi (IntOp.addi (BitVec.ofInt 32 ((n.val : Int) - 127)) 1#32) 3#32) 127#32).setWidth 8 := by
  decide +kernel

theorem zero_bits : Ideal.ofBits .f32 0x00000000#32 = 0 := by
  have : Ideal.ofBits .f32 0x00000000#32 = ((0 : ℝ) : EReal) := by simp [Ideal.ofBits, Ideal.ieee, -EReal.coe_mul]
  rw [this]; rfl

theorem two_bits : Ideal.ofBits .f32 0x40000000#32 = ((2 : ℝ) : EReal) := by
  simp [Ideal.ofBits, Ideal.ieee, -EReal.coe_mul]; norm_num

/-- The floor of the logarithm in base two of a number between two consecutive powers of two. -/
theorem floor_log (r : ℝ) (n : Int) (h1 : (2 : ℝ) ^ n ≤ r) (h2 : r < (2 : ℝ) ^ (n + 1)) : ⌊Real.log r / Real.log 2⌋ = n := by
  have hr : 0 < r := lt_of_lt_of_le (zpow_pos two_pos _) h1
  have hl : 0 < Real.log 2 := Real.log_pos (by norm_num)
  rw [Int.floor_eq_iff]
  constructor
  · rw [le_div_iff₀ hl, ← Real.log_zpow]
    exact Real.log_le_log (zpow_pos two_pos _) h1
  · rw [div_lt_iff₀ hl, show ((n : ℝ) + 1) = ((n + 1 : Int) : ℝ) by push_cast; rfl, ← Real.log_zpow]
    exact Real.log_lt_log hr h2

theorem bytes_eq (a : EReal) (h : InRange a) : kernelByte a = referenceByte a := by
  obtain ⟨e, he, h1, h2, h3⟩ := search_found a
  unfold kernelByte referenceByte
  rw [he, zero_bits, two_bits]
  rcases h with rfl | ⟨ha, hb⟩
  · have e0 : e = 0 := by
      rcases h2 with h2 | h2
      · exact h2
      · by_contra hne
        exact absurd h2 (not_le.mpr (threshold_pos e (by omega) (by omega)))
    subst e0
    have : Ideal.cmp .oeq (0 : EReal) 0 = 1#1 := by simp [Ideal.cmp]
    rw [this]
    decide +kernel
  · have apos : 0 < a := lt_of_lt_of_le (threshold_pos 1 (by omega) (by omega)) ha
    have hne : a ≠ 0 := ne_of_gt apos
    have : Ideal.cmp .oeq a 0 = 0#1 := by simp [Ideal.cmp, hne]
    rw [this]
    have e1 : 1 ≤ e := by
      by_contra hlt
      have : e = 0 := by omega
      subst this
      rcases h3 with h3 | h3
      · omega
      · exact absurd ha (not_le.mpr h3)
    have hatop : a < ⊤ := lt_trans hb (EReal.coe_lt_top _)
    have e2 : e ≤ 254 := by
      by_contra hgt
      have : e = 255 := by omega
      subst this
      rcases h2 with h2 | h2
      · omega
      · rw [threshold_top] at h2; exact absurd hatop (not_lt.mpr h2)
    obtain ⟨r, rfl⟩ : ∃ r : ℝ, a = (r : EReal) := ⟨a.toReal, (EReal.coe_toReal (ne_of_lt hatop) (ne_of_gt (lt_trans EReal.bot_lt_zero apos))).symm⟩
    have rpos : 0 < r := by exact_mod_cast apos
    have hlo : (2 : ℝ) ^ ((e : Int) - 127) ≤ r := by
      rcases h2 with h2 | h2
      · omega
      · rw [threshold_pow e e1 e2] at h2; exact_mod_cast h2
    have hhi : r < (2 : ℝ) ^ ((e : Int) - 127 + 1) := by
      rcases (by omega : e ≤ 253 ∨ e = 254) with h | rfl
      · rcases h3 with h3 | h3
        · omega
        · rw [threshold_pow (e + 1) (by omega) (by omega)] at h3
          have h3 : r < (2 : ℝ) ^ (((e + 1 : Nat) : Int) - 127) := by exact_mod_cast h3
          rw [show (e : Int) - 127 + 1 = ((e + 1 : Nat) : Int) - 127 by push_cast; ring]
          exact h3
      · have hb : r < (2 : ℝ) ^ (128 : Int) := by exact_mod_cast hb
        rw [show ((254 : Nat) : Int) - 127 + 1 = 128 by norm_num]; exact hb
    have hl : 0 < Real.log 2 := Real.log_pos (by norm_num)
    have hdiv : Ideal.div (Ideal.log (r : EReal)) (Ideal.log ((2 : ℝ) : EReal)) = ((Real.log r / Real.log 2 : ℝ) : EReal) := by
      have l1 : Ideal.log (r : EReal) = ((Real.log r : ℝ) : EReal) := if_neg (not_le.mpr rpos)
      have l2 : Ideal.log ((2 : ℝ) : EReal) = ((Real.log 2 : ℝ) : EReal) := if_neg (by norm_num)
      rw [l1, l2]
      unfold Ideal.div
      rw [if_neg (by exact_mod_cast hl.ne'), ← EReal.coe_inv, ← EReal.coe_mul, div_eq_mul_inv]
    have hfl : Ideal.liftRound Int.floor (Ideal.div (Ideal.log (r : EReal)) (Ideal.log ((2 : ℝ) : EReal))) = ((((e : Int) - 127 : Int) : ℝ) : EReal) := by
      rw [hdiv]
      show (((⌊Real.log r / Real.log 2⌋ : Int) : ℝ) : EReal) = _
      rw [floor_log r _ hlo hhi]
    have hto : Ideal.fptosi 32 ((((e : Int) - 127 : Int) : ℝ) : EReal) = BitVec.ofInt 32 ((e : Int) - 127) := by
      unfold Ideal.fptosi
      have hc : Ideal.toIntClamped (-(2 ^ (32 - 1) : Nat)) ((2 ^ (32 - 1) : Nat) - 1) ((((e : Int) - 127 : Int) : ℝ) : EReal) = (e : Int) - 127 := by
        show max _ (min _ (if 0 ≤ (((e : Int) - 127 : Int) : ℝ) then ⌊(((e : Int) - 127 : Int) : ℝ)⌋ else ⌈(((e : Int) - 127 : Int) : ℝ)⌉)) = _
        rw [Int.floor_intCast, Int.ceil_intCast, ite_self]
        norm_num
        omega
      rw [hc]
    rw [hfl, hto]
    exact bytes_of_exponent ⟨e, by omega⟩ e1

end Cert.Exponent

end
-- ==== Proof.ScalesValue.lean ====
/- One scale byte over the reals: the kernel's tile of 256 columns holds eight blocks of 32, interleaved lane by lane, and each lane's byte
   is the one of the largest magnitude in its block. -/
module

public import proofs.«01_k».proof.Proof.ScalesTile
public import proofs.«01_k».proof.Proof.ScalesExponent

@[expose] public section

noncomputable section

namespace Cert.ScalesIdeal.Tile

open Idealize.ShloMosaic Idealize.ShloMosaic.ValueIdx Idealize.ShloMosaic.TcCoe
open Cert Cert.ScalesIdeal Cert.ScalesIdeal.Gen

/-- The magnitude of a number. -/
def mag (x : EReal) : EReal := max x (-x)

theorem acc_apply (x : Vec Ideal S32x256 .bf16) (h : Vec Ideal S256x256 .bf16) (r : Fin 32) (C : Fin 256) :
    acc (F := Ideal) x h (ix2 r C) = ∑ k : Fin 256, x (ix2 r k) * h (ix2 k C) := by
  unfold acc
  rw [shapeCast_self]
  have e := Ideal.matmul_plain_apply (M := 32) (K := 256) (N := 256) (φ₁ := .bf16) (φ₂ := .bf16) none x h
    (constant S32x256 .f32 0x00000000#32) r C
  have z : (constant (F := Ideal) S32x256 .f32 0x00000000#32) (ix2 r C) = (0 : EReal) := Exponent.zero_bits
  rw [z, zero_add] at e
  exact e

theorem both_apply (p : FVec Ideal S32x256 .f32) (r : Fin 32) (l : Fin 128) (C D : Fin 256) (hC : C.val = l.val) (hD : D.val = 128 + l.val) :
    both (F := Ideal) p (ix2 r l) = max (mag (p (ix2 r C))) (mag (p (ix2 r D))) := by
  have e1 : extractStridedSlice S32x128 ![0, 0] p slices_S32x256_o0_0_S32x128 (ix2 r l) = p (ix2 r C) :=
    extractStridedSlice_apply _ _ _ _ _ fun a => by
      match a with
      | ⟨0, _⟩ => show r.val = 0 + r.val; omega
      | ⟨1, _⟩ => show C.val = 0 + l.val; omega
  have e2 : extractStridedSlice S32x128 ![0, 128] p slices_S32x256_o0_128_S32x128 (ix2 r l) = p (ix2 r D) :=
    extractStridedSlice_apply _ _ _ _ _ fun a => by
      match a with
      | ⟨0, _⟩ => show r.val = 0 + r.val; omega
      | ⟨1, _⟩ => show D.val = 128 + l.val; omega
  rw [← e1, ← e2]
  rfl

theorem roll_apply (n : Nat) (hn : n < 128) (v : FVec Ideal S32x128 .f32) (r : Fin 32) (l : Fin 128) :
    roll (F := Ideal) (BitVec.ofNat 32 n) v (ix2 r l)
      = max (v (ix2 r l)) (v (ix2 r (⟨(l.val + 128 - n) % 128, Nat.mod_lt _ (by decide)⟩ : Fin 128))) := by
  have e : dynamicRotate 1 (BitVec.ofNat 32 n) none v rotates_S32x128_d1 (ix2 r l)
      = v (ix2 r (⟨(l.val + 128 - n) % 128, Nat.mod_lt _ (by decide)⟩ : Fin 128)) := by
    refine dynamicRotate_apply _ _ _ _ _ _ fun b => ?_
    match b with
    | ⟨0, _⟩ => rfl
    | ⟨1, _⟩ =>
      show (l.val + 128 - n) % 128 = (l.val + 128 - (BitVec.ofNat 32 n).toNat % 128) % 128
      rw [BitVec.toNat_ofNat]
      have : n % 2 ^ 32 % 128 = n := by omega
      rw [this]
  rw [← e]
  rfl

/-- A roll by `s` halves the distance between the lanes whose numbers are taken together. -/
theorem roll_le (s : Nat) (hs : s = 64 ∨ s = 32 ∨ s = 16 ∨ s = 8) (v : FVec Ideal S32x128 .f32) (r : Fin 32) (z : EReal) (P : Fin 128 → Prop)
    (h : ∀ c : Fin 128, v (ix2 r c) ≤ z ↔ ∀ d : Fin 128, d.val % (2 * s) = c.val % (2 * s) → P d) (c : Fin 128) :
    roll (F := Ideal) (BitVec.ofNat 32 s) v (ix2 r c) ≤ z ↔ ∀ d : Fin 128, d.val % s = c.val % s → P d := by
  rw [roll_apply s (by omega), max_le_iff, h, h]
  constructor
  · rintro ⟨h1, h2⟩ d hd
    by_cases e : d.val % (2 * s) = c.val % (2 * s)
    · exact h1 d e
    · refine h2 d ?_
      show d.val % (2 * s) = (c.val + 128 - s) % 128 % (2 * s)
      rcases hs with rfl | rfl | rfl | rfl <;> omega
  · intro h1
    refine ⟨fun d hd => h1 d ?_, fun d hd => h1 d ?_⟩
    · rcases hs with rfl | rfl | rfl | rfl <;> omega
    · have hd : d.val % (2 * s) = (c.val + 128 - s) % 128 % (2 * s) := hd
      rcases hs with rfl | rfl | rfl | rfl <;> omega

/-- The largest magnitude of a lane's block is at most `z` just where all 32 magnitudes of the block are. -/
theorem largest_le (p : FVec Ideal S32x256 .f32) (r : Fin 32) (l : Fin 128) (z : EReal) :
    largest (F := Ideal) p (ix2 r l) ≤ z
      ↔ ∀ j : Fin 32, mag (p (ix2 r (⟨8 * j.val + l.val % 8, by have := j.isLt; omega⟩ : Fin 256))) ≤ z := by
  have hl := l.isLt
  have h0 : ∀ c : Fin 128, both (F := Ideal) p (ix2 r c) ≤ z
      ↔ ∀ d : Fin 128, d.val % (2 * 64) = c.val % (2 * 64) → both (F := Ideal) p (ix2 r d) ≤ z := fun c => by
    refine ⟨fun h d hd => ?_, fun h => h c rfl⟩
    have : d = c := Fin.ext (by have := d.isLt; have := c.isLt; omega)
    rw [this]; exact h
  have h1 := roll_le 64 (by simp) _ r z _ h0
  have h2 := roll_le 32 (by simp) _ r z _ h1
  have h3 := roll_le 16 (by simp) _ r z _ h2
  refine (roll_le 8 (by simp) _ r z _ h3 l).trans ?_
  have hb : ∀ c : Fin 128, both (F := Ideal) p (ix2 r c) ≤ z
      ↔ mag (p (ix2 r (⟨c.val, by have := c.isLt; omega⟩ : Fin 256))) ≤ z ∧ mag (p (ix2 r (⟨128 + c.val, by have := c.isLt; omega⟩ : Fin 256))) ≤ z := fun c => by
    rw [both_apply p r c ⟨c.val, by have := c.isLt; omega⟩ ⟨128 + c.val, by have := c.isLt; omega⟩ rfl rfl, max_le_iff]
  constructor
  · intro h j
    have hj := j.isLt
    by_cases e : j.val < 16
    · exact ((hb _).mp (h ⟨8 * j.val + l.val % 8, by omega⟩ (by show (8 * j.val + l.val % 8) % 8 = l.val % 8; omega))).1
    · have := ((hb _).mp (h ⟨8 * (j.val - 16) + l.val % 8, by omega⟩ (by show (8 * (j.val - 16) + l.val % 8) % 8 = l.val % 8; omega))).2
      have e' : (⟨128 + (8 * (j.val - 16) + l.val % 8), by omega⟩ : Fin 256) = ⟨8 * j.val + l.val % 8, by omega⟩ :=
        Fin.ext (by show 128 + (8 * (j.val - 16) + l.val % 8) = 8 * j.val + l.val % 8; omega)
      rw [← e']
      exact this
  · intro h d hd
    have hd' := d.isLt
    refine (hb d).mpr ⟨?_, ?_⟩
    · have := h ⟨d.val / 8, by omega⟩
      have e' : (⟨8 * (d.val / 8) + l.val % 8, by omega⟩ : Fin 256) = ⟨d.val, by omega⟩ :=
        Fin.ext (by show 8 * (d.val / 8) + l.val % 8 = d.val; omega)
      rw [← e']
      exact this
    · have := h ⟨d.val / 8 + 16, by omega⟩
      have e' : (⟨8 * (d.val / 8 + 16) + l.val % 8, by omega⟩ : Fin 256) = ⟨128 + d.val, by omega⟩ :=
        Fin.ext (by show 8 * (d.val / 8 + 16) + l.val % 8 = 128 + d.val; omega)
      rw [← e']
      exact this

/-! ## The exponents -/

theorem step_apply (a : FVec Ideal S32x128 .f32) (k : BitVec 32) (e : IVec S32x128 32) (i : S32x128.Idx) :
    step (F := Ideal) a k e i = Exponent.step (a i) k (e i) := rfl

theorem fields_apply (a : FVec Ideal S32x128 .f32) (i : S32x128.Idx) :
    fields (F := Ideal) a i = IntOp.shli .vector (Exponent.search (a i)) 23#32 := by
  unfold fields Exponent.search
  refine congrArg (fun e => IntOp.shli .vector e 23#32) ?_
  rw [step_apply, step_apply, step_apply, step_apply, step_apply, step_apply, step_apply, step_apply]
  rfl

theorem scaled_apply (p : FVec Ideal S32x256 .f32) (i : S32x128.Idx) :
    scaled (F := Ideal) p i = largest (F := Ideal) p i * Ideal.ofBits .f32 0x3E3504F3#32 := rfl

/-! ## The bytes -/

/-- `group` for one lane. -/
def groupOf (l : BitVec 32) : BitVec 32 :=
  Scalar.select (IntOp.andi
      (IntOp.cmpi .ne (IntOp.subi ((IntOp.cmpi .sgt l 0#32).setWidth 32) ((IntOp.cmpi .slt l 0#32).setWidth 32))
        (Scalar.subi (Scalar.extui (Scalar.cmpi .sgt 8#32 0#32)) (Scalar.extui (Scalar.cmpi .slt 8#32 0#32))))
      (IntOp.cmpi .ne (IntOp.remsi .vector l 8#32) 0#32))
    (IntOp.subi (IntOp.divsi .vector l 8#32) 1#32) (IntOp.divsi .vector l 8#32)

theorem groupOf_eq : ∀ l : Fin 128, groupOf (BitVec.ofNat 32 l.val) = BitVec.ofNat 32 (l.val / 8) := by decide +kernel

theorem lanes_apply (r : Fin 32) (l : Fin 128) : lanes (ix2 r l) = BitVec.ofNat 32 l.val :=
  iota_single_apply _ _ _ _ _ _

theorem group_apply (r : Fin 32) (l : Fin 128) : group lanes (ix2 r l) = BitVec.ofNat 32 (l.val / 8) := by
  refine Eq.trans ?_ (groupOf_eq l)
  rw [← lanes_apply r l]
  rfl

theorem group_eq : ∀ a b : Fin 16, IntOp.cmpi .eq (BitVec.ofNat 32 a.val) (BitVec.ofNat 32 b.val) = BitVec.ofBool (decide (a.val = b.val)) := by
  decide +kernel

/-- The exponents of `n + 1` tiles side by side, at a lane of one of them. -/
theorem chain_apply (f : Nat → IVec S32x128 32) (r : Fin 32) (l : Fin 128) : ∀ n : Nat, n < 16 → l.val / 8 ≤ n →
    chain lanes f n (ix2 r l) = f (l.val / 8) (ix2 r l)
  | 0, _, h => by
    rw [Nat.le_zero.mp h]; rfl
  | n + 1, hn, h => by
    have hl := l.isLt
    show Scalar.select (IntOp.cmpi .eq (group lanes (ix2 r l)) (BitVec.ofNat 32 (n + 1))) (f (n + 1) (ix2 r l)) (chain lanes f n (ix2 r l)) = _
    have g : IntOp.cmpi .eq (BitVec.ofNat 32 (l.val / 8)) (BitVec.ofNat 32 (n + 1)) = BitVec.ofBool (decide (l.val / 8 = n + 1)) :=
      group_eq ⟨l.val / 8, by omega⟩ ⟨n + 1, hn⟩
    rw [group_apply, g]
    by_cases e : l.val / 8 = n + 1
    · rw [← e]; simp [Scalar.select]
    · simp only [e, decide_false]
      exact chain_apply f r l n (by omega) (by omega)

theorem joined_apply (f : Nat → IVec S32x128 32) (r : Fin 32) (b : Fin 224) (B : Fin 256) (hB : B.val = b.val) (l : Fin 128) (hl : l.val = b.val % 128) :
    joined lanes f (ix2 r B) = IntOp.shrsi .vector (f (b.val / 8) (ix2 r l)) 23#32 := by
  have hb := b.isLt
  unfold joined
  by_cases h : b.val < 128
  · refine (concatenate_pair_apply_left (t := S32x256) (s₁ := S32x128) (s₂ := S32x128) _ _ _ _ (ix2 r B) rfl (ix2 r l) ?_).trans ?_
    · intro a
      match a with
      | ⟨0, _⟩ => rfl
      | ⟨1, _⟩ => show l.val = B.val; omega
    · show IntOp.shrsi .vector (chain lanes f 15 (ix2 r l)) 23#32 = _
      rw [chain_apply f r l 15 (by omega) (by omega)]
      have : l.val / 8 = b.val / 8 := by omega
      rw [this]
  · refine (concatenate_pair_apply_right (t := S32x256) (s₁ := S32x128) (s₂ := S32x128) _ _ _ _ (ix2 r B) rfl rfl (ix2 r l) ?_ ?_).trans ?_
    · intro a ha
      match a with
      | ⟨0, _⟩ => rfl
      | ⟨1, _⟩ => exact absurd rfl ha
    · show l.val + 128 = B.val; omega
    · show IntOp.shrsi .vector (chain lanes (fun n => f (16 + n)) 11 (ix2 r l)) 23#32 = _
      rw [chain_apply (fun n => f (16 + n)) r l 11 (by omega) (by omega)]
      have : 16 + l.val / 8 = b.val / 8 := by omega
      simp only [this]

theorem bytes_apply (f : Nat → IVec S32x128 32) (a : Nat → FVec Ideal S32x128 .f32) (ha : ∀ n, f n = fields (F := Ideal) (a n)) (r : Fin 32)
    (b : Fin 224) (l : Fin 128) (hl : l.val = b.val % 128) :
    bytes lanes f (ix2 r b) = Exponent.kernelByte (a (b.val / 8) (ix2 r l)) := by
  have hb := b.isLt
  unfold bytes
  refine (congrArg (BitVec.setWidth 8) (extractStridedSlice_apply (t := S32x224) _ _ _ (ix2 r b) (ix2 r (⟨b.val, by omega⟩ : Fin 256)) fun a => ?_)).trans ?_
  · match a with
    | ⟨0, _⟩ => show r.val = 0 + r.val; omega
    | ⟨1, _⟩ => show b.val = 0 + b.val; omega
  show (Scalar.select (IntOp.cmpi .eq (joined lanes f (ix2 r _)) 0#32) 127#32 (IntOp.andi (IntOp.subi (joined lanes f (ix2 r _)) 2#32) 255#32)).setWidth 8 = _
  rw [joined_apply f r b ⟨b.val, by omega⟩ rfl l hl, ha, fields_apply]
  rfl

/-! ## The tiles of one grid point -/

theorem trips_eq : k0_t1_loop.trips = 8 := by decide +kernel

theorem ldx_apply (X : Vec Ideal S256x7168 .bf16) (k : Fin k0_t1_loop.trips) (n : Nat) (hn : n < 28) (off : Fin 2 → Nat)
    (inb : ∀ a, off a + S32x256.size a ≤ S256x7168.size a) (e : off = ![32 * k.val, 256 * n]) (r : Fin 32) (c : Fin 256)
    (R : Fin 256) (C : Fin 7168) (hR : R.val = 32 * k.val + r.val) (hC : C.val = 256 * n + c.val) :
    ldx X off inb (ix2 r c) = X (ix2 R C) := by
  subst e
  refine View.ld_unit_apply_of X _ _ _ _ _ fun a => ?_
  match a with
  | ⟨0, _⟩ => exact hR
  | ⟨1, _⟩ => exact hC

theorem tiles_apply (X : Vec Ideal S256x7168 .bf16) (k : Fin k0_t1_loop.trips) (r : Fin 32) (c : Fin 256) (R : Fin 256) (C : Fin 7168)
    (hR : R.val = 32 * k.val + r.val) : ∀ (n : Nat) (_ : n < 28), C.val = 256 * n + c.val →
    (tiles X k).getD n (ldx X (k0_off1 k) (k0_off1_inb k)) (ix2 r c) = X (ix2 R C)
  | 0, _ => ldx_apply X k 0 (by decide) _ (k0_off1_inb k) (k0_off1_eq k) r c R C hR
  | 1, _ => ldx_apply X k 1 (by decide) _ (k0_off4_inb k) (k0_off4_eq k) r c R C hR
  | 2, _ => ldx_apply X k 2 (by decide) _ (k0_off7_inb k) (k0_off7_eq k) r c R C hR
  | 3, _ => ldx_apply X k 3 (by decide) _ (k0_off10_inb k) (k0_off10_eq k) r c R C hR
  | 4, _ => ldx_apply X k 4 (by decide) _ (k0_off13_inb k) (k0_off13_eq k) r c R C hR
  | 5, _ => ldx_apply X k 5 (by decide) _ (k0_off16_inb k) (k0_off16_eq k) r c R C hR
  | 6, _ => ldx_apply X k 6 (by decide) _ (k0_off19_inb k) (k0_off19_eq k) r c R C hR
  | 7, _ => ldx_apply X k 7 (by decide) _ (k0_off22_inb k) (k0_off22_eq k) r c R C hR
  | 8, _ => ldx_apply X k 8 (by decide) _ (k0_off25_inb k) (k0_off25_eq k) r c R C hR
  | 9, _ => ldx_apply X k 9 (by decide) _ (k0_off28_inb k) (k0_off28_eq k) r c R C hR
  | 10, _ => ldx_apply X k 10 (by decide) _ (k0_off31_inb k) (k0_off31_eq k) r c R C hR
  | 11, _ => ldx_apply X k 11 (by decide) _ (k0_off34_inb k) (k0_off34_eq k) r c R C hR
  | 12, _ => ldx_apply X k 12 (by decide) _ (k0_off37_inb k) (k0_off37_eq k) r c R C hR
  | 13, _ => ldx_apply X k 13 (by decide) _ (k0_off40_inb k) (k0_off40_eq k) r c R C hR
  | 14, _ => ldx_apply X k 14 (by decide) _ (k0_off43_inb k) (k0_off43_eq k) r c R C hR
  | 15, _ => ldx_apply X k 15 (by decide) _ (k0_off46_inb k) (k0_off46_eq k) r c R C hR
  | 16, _ => ldx_apply X k 16 (by decide) _ (k0_off49_inb k) (k0_off49_eq k) r c R C hR
  | 17, _ => ldx_apply X k 17 (by decide) _ (k0_off52_inb k) (k0_off52_eq k) r c R C hR
  | 18, _ => ldx_apply X k 18 (by decide) _ (k0_off55_inb k) (k0_off55_eq k) r c R C hR
  | 19, _ => ldx_apply X k 19 (by decide) _ (k0_off58_inb k) (k0_off58_eq k) r c R C hR
  | 20, _ => ldx_apply X k 20 (by decide) _ (k0_off61_inb k) (k0_off61_eq k) r c R C hR
  | 21, _ => ldx_apply X k 21 (by decide) _ (k0_off64_inb k) (k0_off64_eq k) r c R C hR
  | 22, _ => ldx_apply X k 22 (by decide) _ (k0_off67_inb k) (k0_off67_eq k) r c R C hR
  | 23, _ => ldx_apply X k 23 (by decide) _ (k0_off70_inb k) (k0_off70_eq k) r c R C hR
  | 24, _ => ldx_apply X k 24 (by decide) _ (k0_off73_inb k) (k0_off73_eq k) r c R C hR
  | 25, _ => ldx_apply X k 25 (by decide) _ (k0_off76_inb k) (k0_off76_eq k) r c R C hR
  | 26, _ => ldx_apply X k 26 (by decide) _ (k0_off79_inb k) (k0_off79_eq k) r c R C hR
  | 27, _ => ldx_apply X k 27 (by decide) _ (k0_off82_inb k) (k0_off82_eq k) r c R C hR
  | n + 28, h => absurd h (by omega)

/-! ## One block -/

/-- The rotation's gain, as the float that both programs use. -/
def gain : EReal := Ideal.ofBits .f32 0x3E3504F3#32

/-- Entry `j` of block `B` of row `R` rotated. -/
def rotated (x : Vec Ideal S6144x7168 .bf16) (h : (⟨2, ![32, 32]⟩ : Shape).Idx → EReal) (R : Fin 6144) (B : Fin 224) (j : Fin 32) : EReal :=
  ∑ i : Fin 32, x (ix2 R (⟨32 * B.val + i.val, by have := B.isLt; have := i.isLt; omega⟩ : Fin 7168)) * h (ix2 i j)

/-- The largest magnitude of block `B` of row `R` rotated. -/
def maximum (x : Vec Ideal S6144x7168 .bf16) (h : (⟨2, ![32, 32]⟩ : Shape).Idx → EReal) (R : Fin 6144) (B : Fin 224) : EReal :=
  Finset.univ.sup fun j : Fin 32 => mag (rotated x h R B j * gain)

/-- The rotation of a tile: the same 32 by 32 rotation for each of the eight blocks, their columns interleaved. -/
def Interleaved (H : Vec Ideal S256x256 .bf16) (h : (⟨2, ![32, 32]⟩ : Shape).Idx → EReal) : Prop :=
  ∀ (K C : Fin 256) (b : Fin 8) (i : Fin 32) (j : Fin 32) (g : Fin 8), K.val = 32 * b.val + i.val → C.val = 8 * j.val + g.val →
    H (ix2 K C) = if b = g then h (ix2 i j) else (0 : EReal)

/-- A sum over a tile of 256 columns against one column of the tile's rotation is the sum over one block. -/
theorem sum_interleaved (H : Vec Ideal S256x256 .bf16) (h : (⟨2, ![32, 32]⟩ : Shape).Idx → EReal) (hH : Interleaved H h) (f : Fin 256 → EReal)
    (j : Fin 32) (g : Fin 8) (C : Fin 256) (hC : C.val = 8 * j.val + g.val) :
    ∑ k : Fin 256, f k * H (ix2 k C) = ∑ i : Fin 32, f (⟨32 * g.val + i.val, by have := g.isLt; have := i.isLt; omega⟩ : Fin 256) * h (ix2 i j) := by
  have ek : ∀ (b : Fin 8) (i : Fin 32), (finProdFinEquiv (b, i) : Fin 256) = (⟨32 * b.val + i.val, by have := b.isLt; have := i.isLt; omega⟩ : Fin 256) :=
    fun b i => Fin.ext (by show i.val + 32 * b.val = 32 * b.val + i.val; omega)
  rw [← Equiv.sum_comp (finProdFinEquiv (m := 8) (n := 32)) (fun k : Fin 256 => f k * H (ix2 k C)), Fintype.sum_prod_type]
  rw [Finset.sum_eq_single g]
  · refine Finset.sum_congr rfl fun i _ => ?_
    rw [ek g i]
    refine congrArg (fun y : EReal => f _ * y) ((hH _ C g i j g rfl hC).trans (if_pos rfl))
  · intro b _ hb
    refine Finset.sum_eq_zero fun i _ => ?_
    rw [ek b i]
    refine (congrArg (fun y : EReal => f _ * y) ((hH _ C b i j g rfl hC).trans (if_neg hb))).trans (mul_zero _)
  · intro hg
    exact absurd (Finset.mem_univ g) hg

theorem gain_pos : ∃ r : ℝ, 0 < r ∧ gain = (r : EReal) := by
  refine ⟨11863283 * 2 ^ (-26 : Int), by positivity, ?_⟩
  unfold gain
  simp [Ideal.ofBits, Ideal.ieee, -EReal.coe_mul]

theorem gain_mono : Monotone fun y : EReal => y * gain := by
  obtain ⟨g, hg, e⟩ := gain_pos
  intro a b hab
  exact mul_le_mul_of_nonneg_right hab (by rw [e]; exact_mod_cast hg.le)

theorem mag_gain (y : EReal) : mag (y * gain) = mag y * gain := by
  unfold mag
  rw [← EReal.neg_mul]
  exact (gain_mono.map_max).symm

theorem mul_gain_le (y z : EReal) : y * gain ≤ z ↔ y ≤ z / gain := by
  obtain ⟨g, hg, e⟩ := gain_pos
  rw [e]
  exact (EReal.le_div_iff_mul_le (by exact_mod_cast hg) (EReal.coe_ne_top g)).symm

/-- The kernel's largest magnitude times the gain, for the block of lane `l` of a tile. -/
theorem scaled_eq (p : FVec Ideal S32x256 .f32) (r : Fin 32) (l : Fin 128) (s : Fin 32 → EReal)
    (hs : ∀ j : Fin 32, p (ix2 r (⟨8 * j.val + l.val % 8, by have := j.isLt; omega⟩ : Fin 256)) = s j) :
    scaled (F := Ideal) p (ix2 r l) = Finset.univ.sup fun j : Fin 32 => mag (s j * gain) := by
  refine eq_of_forall_ge_iff fun z => ?_
  rw [scaled_apply]
  show largest (F := Ideal) p (ix2 r l) * gain ≤ z ↔ _
  rw [mul_gain_le, largest_le, Finset.sup_le_iff]
  refine forall_congr' fun j => ?_
  rw [hs j, mag_gain, mul_gain_le]
  simp

/-- The byte that trip `k` stores for its row `r` and block `b`. -/
theorem byte_apply (X : Vec Ideal S256x7168 .bf16) (H : Vec Ideal S256x256 .bf16) (x : Vec Ideal S6144x7168 .bf16)
    (h : (⟨2, ![32, 32]⟩ : Shape).Idx → EReal) (hH : Interleaved H h) (k : Fin k0_t1_loop.trips) (r : Fin 32) (b : Fin 224) (Q : Fin 256)
    (hQ : Q.val = 32 * k.val + r.val) (R : Fin 6144) (hX : ∀ c : Fin 7168, X (ix2 Q c) = x (ix2 R c)) :
    bytes lanes (tileFields X H k) (ix2 r b) = Exponent.kernelByte (maximum x h R b) := by
  have hb := b.isLt
  obtain ⟨l, hl⟩ : ∃ l : Fin 128, l.val = b.val % 128 := ⟨⟨b.val % 128, by omega⟩, rfl⟩
  rw [bytes_apply (tileFields X H k) (fun n => scaled (acc ((tiles X k).getD n (ldx X (k0_off1 k) (k0_off1_inb k)))
    (View.ld H (Rect.unit (s := S256x256) ![0, 0] S256x256.size (by decide))))) (fun n => rfl) r b l hl]
  congr 1
  refine scaled_eq _ r l _ fun j => ?_
  have hj := j.isLt
  have eH : View.ld H (Rect.unit (s := S256x256) ![0, 0] S256x256.size (by decide)) = H := by
    funext y
    refine View.ld_unit_apply_of H _ _ _ y y fun a => ?_
    match a with
    | ⟨0, _⟩ => exact (Nat.zero_add _).symm
    | ⟨1, _⟩ => exact (Nat.zero_add _).symm
  rw [eH, acc_apply]
  refine (sum_interleaved H h hH _ j ⟨l.val % 8, by omega⟩ _ rfl).trans ?_
  unfold rotated
  refine Finset.sum_congr rfl fun i _ => ?_
  have hi := i.isLt
  refine congrArg (fun y : EReal => y * h (ix2 i j)) ?_
  refine (tiles_apply X k r _ Q ⟨32 * b.val + i.val, by omega⟩ hQ (b.val / 8) (by omega)
    (by show 32 * b.val + i.val = 256 * (b.val / 8) + (32 * (l.val % 8) + i.val); omega)).trans ?_
  exact hX _

end Cert.ScalesIdeal.Tile

end
-- ==== Proof.ScalesBlocks.lean ====
/- What the call leaves in its array of scale bytes, over the reals: at row `R` and block `B` the kernel's byte of the largest magnitude of
   that block rotated. -/
module

public import proofs.«01_k».proof.Proof.ScalesValue
public import proofs.«01_k».proof.Proof.Gen.ScalesIdeal.Value
public import Idealize.ShloMosaic.Lib.StableHlo.Run
public import Idealize.ShloMosaic.Lib.Pointwise.ShapeOpsCore

@[expose] public section

noncomputable section

namespace Cert.ScalesIdeal.Blocks

open Idealize.ShloMosaic hiding ix2 ix3 ix4
open Idealize.ShloMosaic.ValueIdx Idealize.ShloMosaic.TcCoe Idealize.ShloMosaic.StableHlo
open Cert Cert.ScalesIdeal Cert.ScalesIdeal.Gen

/-! ## The rotation that the host makes of the 32 by 32 one -/

/-- Where the block of a row is the block of a column. -/
def same : IVec S8x8 1 :=
  cmpi .eq (broadcastInDim S8x8 ![0, 1] bcast_S8x1_S8x8_0_1 (broadcastInDim S8x1 ![0] bcast_S8_S8x1_0 (iotaInDim S8 32 0)))
    (broadcastInDim S8x8 ![0, 1] bcast_S1x8_S8x8_0_1 (broadcastInDim S1x8 ![1] bcast_S8_S1x8_1 (iotaInDim S8 32 0)))

/-- The rotation before its axes are merged. -/
def spread (h : FVec Ideal S32x32 .bf16) : FVec Ideal S8x32x32x8 .bf16 :=
  select (broadcastInDim S8x32x32x8 ![0, 1, 2, 3] bcast_S8x1x1x8_S8x32x32x8_0_1_2_3 (broadcastInDim S8x1x1x8 ![0, 3] bcast_S8x8_S8x1x1x8_0_3 same))
    (broadcastInDim S8x32x32x8 ![0, 1, 2, 3] bcast_S1x32x32x1_S8x32x32x8_0_1_2_3
      (broadcastInDim S1x32x32x1 ![1, 2] bcast_S32x32_S1x32x32x1_1_2 h))
    (broadcastInDim S8x32x32x8 ![] bcast_S_S8x32x32x8 (constant S_ .bf16 0x0000#16))

/-- The tile's rotation. -/
def rotation (h : FVec Ideal S32x32 .bf16) : FVec Ideal S256x256 .bf16 := shapeCast S256x256 (spread h) shapeCasts_S8x32x32x8_S256x256

theorem same_apply (b g : Fin 8) : same (ix2 b g) = if b = g then 1#1 else 0#1 := by
  revert b g
  decide +kernel

theorem zero_apply : Ideal.ofBits .bf16 0x0000#16 = (0 : EReal) := by
  have : Ideal.ofBits .bf16 0x0000#16 = ((0 : ℝ) : EReal) := by simp [Ideal.ofBits, Ideal.ieee, -EReal.coe_mul]
  rw [this]; rfl

theorem spread_apply (h : FVec Ideal S32x32 .bf16) (b : Fin 8) (i j : Fin 32) (g : Fin 8) :
    spread h (ix4 b i j g) = if b = g then h (ix2 i j) else (0 : EReal) := by
  have e1 : broadcastInDim S8x32x32x8 ![0, 1, 2, 3] bcast_S8x1x1x8_S8x32x32x8_0_1_2_3 (broadcastInDim S8x1x1x8 ![0, 3] bcast_S8x8_S8x1x1x8_0_3 same) (ix4 b i j g)
      = same (ix2 b g) := by
    refine (broadcastInDim_apply _ _ _ _ (ix4 b (0 : Fin 1) (0 : Fin 1) g) ?_).trans (broadcastInDim_apply _ _ _ _ (ix2 b g) ?_)
    · intro a
      match a with
      | ⟨0, _⟩ => rfl
      | ⟨1, _⟩ => rfl
      | ⟨2, _⟩ => rfl
      | ⟨3, _⟩ => rfl
    · intro a
      match a with
      | ⟨0, _⟩ => rfl
      | ⟨1, _⟩ => rfl
  have e2 : broadcastInDim S8x32x32x8 ![0, 1, 2, 3] bcast_S1x32x32x1_S8x32x32x8_0_1_2_3
      (broadcastInDim S1x32x32x1 ![1, 2] bcast_S32x32_S1x32x32x1_1_2 h) (ix4 b i j g) = h (ix2 i j) := by
    refine (broadcastInDim_apply _ _ _ _ (ix4 (0 : Fin 1) i j (0 : Fin 1)) ?_).trans (broadcastInDim_apply _ _ _ _ (ix2 i j) ?_)
    · intro a
      match a with
      | ⟨0, _⟩ => rfl
      | ⟨1, _⟩ => rfl
      | ⟨2, _⟩ => rfl
      | ⟨3, _⟩ => rfl
    · intro a
      match a with
      | ⟨0, _⟩ => rfl
      | ⟨1, _⟩ => rfl
  show Scalar.select (broadcastInDim S8x32x32x8 ![0, 1, 2, 3] bcast_S8x1x1x8_S8x32x32x8_0_1_2_3 (broadcastInDim S8x1x1x8 ![0, 3] bcast_S8x8_S8x1x1x8_0_3 same) (ix4 b i j g))
    (broadcastInDim S8x32x32x8 ![0, 1, 2, 3] bcast_S1x32x32x1_S8x32x32x8_0_1_2_3
      (broadcastInDim S1x32x32x1 ![1, 2] bcast_S32x32_S1x32x32x1_1_2 h) (ix4 b i j g)) (Ideal.ofBits .bf16 0x0000#16 : EReal) = _
  rw [e1, e2, zero_apply, same_apply]
  by_cases hb : b = g
  · rw [if_pos hb, if_pos hb]; rfl
  · rw [if_neg hb, if_neg hb]; rfl

theorem rotation_interleaved (h : FVec Ideal S32x32 .bf16) : Tile.Interleaved (rotation h) h := by
  intro K C b i j g hK hC
  have hb := b.isLt
  have hi := i.isLt
  have hj := j.isLt
  have hg := g.isLt
  refine (shapeCast_apply (spread h) shapeCasts_S8x32x32x8_S256x256 (ix2 K C) (ix4 b i j g) ?_).trans (spread_apply h b i j g)
  rw [Shape.rowMajor_val_four, Shape.rowMajor_val_two]
  show ((b.val * 32 + i.val) * 32 + j.val) * 8 + g.val = K.val * 256 + C.val
  omega

variable (m : (ℓ : Loc nD τ sig) → Buf (Elt Ideal) ℓ)

/-- The region finds that rotation in the array its second window reads. -/
theorem V_rotation (c : Dev nD) : V m c main_v9 = rotation (m ((c : Thread nD τ).loc main_arg1)) := by
  simp only [V, hostOps0, hostOps0_1, hostOps0_2, List.flatten_cons, List.flatten_nil, List.append_nil, List.cons_append, List.nil_append,
    TRef.ternary, TRef.unary, TRef.toBuf, TRef.ofBuf, cast_eq]
  after_results_simp <;> rfl

/-! ## The blocks that a grid point reads -/

theorem index_0 : ∀ t : Fin cfg0.N, win0_0.index t (0 : Fin 2) = t.val ∧ win0_0.index t (1 : Fin 2) = 0 :=
  (by decide +kernel : ∀ t : Fin grid0.N, _)

theorem index_1 : ∀ t : Fin cfg0.N, win0_1.index t (0 : Fin 2) = 0 ∧ win0_1.index t (1 : Fin 2) = 0 :=
  (by decide +kernel : ∀ t : Fin grid0.N, _)

theorem index_3 : ∀ t : Fin cfg0.N, win0_3.index t (0 : Fin 2) = t.val ∧ win0_3.index t (1 : Fin 2) = 0 :=
  (by decide +kernel : ∀ t : Fin grid0.N, _)

/-- The rows that point `t` reads. -/
theorem rows_apply (c : Dev nD) (t : Fin cfg0.N) (r : Fin 256) (k : Fin 7168) (R : Fin 6144) (hR : R.val = 256 * t.val + r.val) :
    iblk m c 0 t (ix2 r k) = m ((c : Thread nD τ).loc main_arg0) (ix2 R k) := by
  obtain ⟨e0, e1⟩ := index_0 t
  refine Eq.trans ?_ (congrFun (V_main_arg0 m c) (ix2 R k))
  show V m c main_arg0 (((cfg0.win 0).blk t).view.emb (ix2 r k)) = _
  refine congrArg (V m c main_arg0) (funext fun a => Fin.ext ?_)
  match a with
  | ⟨0, _⟩ => show win0_0.index t (0 : Fin 2) * 256 + 1 * r.val = R.val; omega
  | ⟨1, _⟩ => show win0_0.index t (1 : Fin 2) * 7168 + 1 * k.val = k.val; omega

/-- The rotation that every point reads. -/
theorem turn_apply (c : Dev nD) (t : Fin cfg0.N) (k l : Fin 256) :
    iblk m c 1 t (ix2 k l) = rotation (m ((c : Thread nD τ).loc main_arg1)) (ix2 k l) := by
  obtain ⟨e0, e1⟩ := index_1 t
  refine Eq.trans ?_ (congrFun (V_rotation m c) (ix2 k l))
  show V m c main_v9 (((cfg0.win 1).blk t).view.emb (ix2 k l)) = _
  refine congrArg (V m c main_v9) (funext fun a => Fin.ext ?_)
  match a with
  | ⟨0, _⟩ => show win0_1.index t (0 : Fin 2) * 256 + 1 * k.val = k.val; omega
  | ⟨1, _⟩ => show win0_1.index t (1 : Fin 2) * 256 + 1 * l.val = l.val; omega

/-! ## What a point leaves -/

/-- The bytes of the block of 256 rows `t`. -/
def blockBytes (x : Vec Ideal S6144x7168 .bf16) (h : (⟨2, ![32, 32]⟩ : Shape).Idx → EReal) (t : Nat) (ht : t < 24) :
    S256x224.Idx → Elt Ideal .i8 :=
  fun i => Exponent.kernelByte (Tile.maximum x h (⟨256 * t + (i 0).val, by have h0 : (i 0).val < 256 := (i 0).isLt; omega⟩ : Fin 6144) (i 1))

/-- One store leaves its part of them. -/
theorem piece_apply (X : Vec Ideal S256x7168 .bf16) (H : Vec Ideal S256x256 .bf16) (x : Vec Ideal S6144x7168 .bf16)
    (h : (⟨2, ![32, 32]⟩ : Shape).Idx → EReal) (hH : Tile.Interleaved H h) (t : Nat) (ht : t < 24)
    (hX : ∀ (q : Fin 256) (k : Fin 7168) (R : Fin 6144), R.val = 256 * t + q.val → X (ix2 q k) = x (ix2 R k))
    (k : Fin k0_t1_loop.trips) (r : Fin 32) (b : Fin 224) :
    Tile.bytes Tile.lanes (Tile.tileFields X H k) (ix2 r b)
      = blockBytes x h t ht ((Rect.unit (s := S256x224) (k0_off85 k) S32x224.size (k0_off85_inb k)).emb (ix2 r b)) := by
  have hk := k.isLt
  have hk8 : k0_t1_loop.trips = 8 := Tile.trips_eq
  have hr := r.isLt
  have e : (Rect.unit (s := S256x224) (k0_off85 k) S32x224.size (k0_off85_inb k)).emb (ix2 r b)
      = ix2 (⟨32 * k.val + r.val, by omega⟩ : Fin 256) b := by
    funext a
    refine Fin.ext ?_
    have e0 := k0_off85_eq k
    match a with
    | ⟨0, _⟩ => show k0_off85 k (0 : Fin 2) + 1 * r.val = 32 * k.val + r.val; rw [e0]; show 32 * k.val + 1 * r.val = _; omega
    | ⟨1, _⟩ => show k0_off85 k (1 : Fin 2) + 1 * b.val = b.val; rw [e0]; show 0 + 1 * b.val = _; omega
  rw [e]
  exact Tile.byte_apply X H x h hH k r b ⟨32 * k.val + r.val, by omega⟩ rfl ⟨256 * t + (32 * k.val + r.val), by omega⟩
    (fun c => hX _ c _ rfl)

/-- The stores of one grid point together. -/
theorem canon_pieces (X : Vec Ideal S256x7168 .bf16) (H : Vec Ideal S256x256 .bf16) (x : Vec Ideal S6144x7168 .bf16)
    (h : (⟨2, ![32, 32]⟩ : Shape).Idx → EReal) (hH : Tile.Interleaved H h) (t : Nat) (ht : t < 24)
    (hX : ∀ (q : Fin 256) (k : Fin 7168) (R : Fin 6144), R.val = 256 * t + q.val → X (ix2 q k) = x (ix2 R k))
    (y : S256x224.Idx) (hy : ∃ p ∈ Tile.pieces X H k0_t1_loop.trips le_rfl, y ∈ p.1.set) :
    View.canon (Tile.pieces X H k0_t1_loop.trips le_rfl) y = blockBytes x h t ht y := by
  refine View.canon_apply_of_pieces (blockBytes x h t ht) _ (fun q hq => ?_) y hy
  obtain ⟨k, rfl⟩ := Tile.mem_pieces X H q _ _ hq
  intro z
  obtain ⟨r, b, rfl⟩ : ∃ (r : Fin 32) (b : Fin 224), z = ix2 r b :=
    ⟨z 0, z 1, by funext a; match a with | ⟨0, _⟩ => rfl | ⟨1, _⟩ => rfl⟩
  exact piece_apply X H x h hH t ht hX k r b

/-- What point `t` leaves in its block of scale bytes. -/
theorem out_apply (c : Dev nD) (t : Fin cfg0.N) (i : grid0.Coords) (arg1 : Memref sig .tc .vmem S256x7168 .bf16) (harg1 : arg1.IsWhole)
    (arg2 : Memref sig .tc .vmem S256x256 .bf16) (harg2 : arg2.IsWhole) (arg3 : Memref sig .tc .vmem S256x7168 .i8) (harg3 : arg3.IsWhole)
    (arg4 : Memref sig .tc .vmem S256x224 .i8) (harg4 : arg4.IsWhole) (arg5 : Memref sig .tc .vmem S256x7168 .bf16) (harg5 : arg5.IsWhole)
    (q : Fin 256) (b : Fin 224) (R : Fin 6144) (hR : R.val = 256 * t.val + q.val) :
    out0_A_3 (F := Ideal) c i arg1 harg1 arg2 harg2 arg3 harg3 arg4 harg4 arg5 harg5 (iblk m c 0 t) (iblk m c 1 t) (ix2 q b)
      = Exponent.kernelByte (Tile.maximum (m ((c : Thread nD τ).loc main_arg0)) (m ((c : Thread nD τ).loc main_arg1)) R b) := by
  have hN : cfg0.N = 24 := N_0
  have ht := t.isLt
  have hcov := cover0_A_3 (F := Ideal) c i arg1 harg1 arg2 harg2 arg3 harg3 arg4 harg4 arg5 harg5 (iblk m c 0 t) (iblk m c 1 t) (ix2 q b)
  unfold out0_A_3
  rw [View.read_writes_junk_eq_canon]
  rw [Tile.run_pieces, harg1.read_unread, harg2.read_unread] at hcov ⊢
  have e : iblk m c 1 t = rotation (m ((c : Thread nD τ).loc main_arg1)) := by
    funext z
    obtain ⟨k, l, rfl⟩ : ∃ (k l : Fin 256), z = ix2 k l := ⟨z 0, z 1, by funext a; match a with | ⟨0, _⟩ => rfl | ⟨1, _⟩ => rfl⟩
    exact turn_apply m c t k l
  refine (canon_pieces (iblk m c 0 t) (iblk m c 1 t) (m ((c : Thread nD τ).loc main_arg0)) (m ((c : Thread nD τ).loc main_arg1))
    (by rw [e]; exact rotation_interleaved _) t.val (by omega) (fun q k R h => rows_apply m c t q k R h) (ix2 q b) hcov).trans ?_
  refine congrArg (fun S : Fin 6144 => Exponent.kernelByte (Tile.maximum (m ((c : Thread nD τ).loc main_arg0)) (m ((c : Thread nD τ).loc main_arg1)) S b)) ?_
  exact Fin.ext hR.symm

/-- The array of scale bytes after the call. -/
theorem result_apply (c : Dev nD) (R : Fin 6144) (b : Fin 224) :
    (dats m 0 c).arrAt 3 cfg0.N (ix2 R b)
      = Exponent.kernelByte (Tile.maximum (m ((c : Thread nD τ).loc main_arg0)) (m ((c : Thread nD τ).loc main_arg1)) R b) := by
  have hN : cfg0.N = 24 := N_0
  have hR := R.isLt
  obtain ⟨t, ht⟩ : ∃ t : Fin cfg0.N, t.val = R.val / 256 := ⟨⟨R.val / 256, by omega⟩, rfl⟩
  obtain ⟨q, hq⟩ : ∃ q : Fin 256, q.val = R.val % 256 := ⟨⟨R.val % 256, by omega⟩, rfl⟩
  obtain ⟨e0, e1⟩ := index_3 t
  have e := congrFun (Value.blocks3 m c t (flush0_3 t)) (ix2 q b)
  have ei : ((cfg0.win 3).blk t).view.emb (ix2 q b) = ix2 R b := by
    funext a
    refine Fin.ext ?_
    match a with
    | ⟨0, _⟩ => show win0_3.index t (0 : Fin 2) * 256 + 1 * q.val = R.val; omega
    | ⟨1, _⟩ => show win0_3.index t (1 : Fin 2) * 224 + 1 * b.val = b.val; omega
  have el : ((cfg0.win 3).blk t).view.read (Elt Ideal) ((dats m 0 c).arrAt 3 cfg0.N) (ix2 q b) = (dats m 0 c).arrAt 3 cfg0.N (ix2 R b) := by
    show (dats m 0 c).arrAt 3 cfg0.N (((cfg0.win 3).blk t).view.emb (ix2 q b)) = _
    rw [ei]
  rw [← el, e, Value.flushed3_A]
  exact out_apply m c t _ _ _ _ _ _ _ _ _ _ _ q b R (by omega)

end Cert.ScalesIdeal.Blocks

end
-- ==== Proof.ScalesRefValue.lean ====
/- What the reference leaves in its array of scale bytes, over the reals, and what the precondition says: both of the largest magnitude of
   each block rotated. -/
module

public import proofs.«01_k».proof.Proof.ScalesValue
public import proofs.«01_k».proof.Proof.Gen.ScalesRefIdeal.Run
public import proofs.«01_k».proof.Proof.Gen.Pre_maxima_in_range
public import Idealize.ShloMosaic.PureOps.Ideal.Laws
public import Idealize.ShloMosaic.PureOps.Reduce
public import Idealize.ShloMosaic.Lib.StackMember
public import Idealize.ShloMosaic.Lib.Pointwise.ShapeOpsCore

@[expose] public section

noncomputable section

namespace Cert.ScalesRefIdeal.Decoded

open Idealize.ShloMosaic hiding ix2 ix3
open Idealize.ShloMosaic.ValueIdx Idealize.ShloMosaic.TcCoe Idealize.SL.Sem
open Cert Cert.ScalesRefIdeal Cert.ScalesRefIdeal.Gen

/-! ## The reference's term, in named parts -/

/-- The blocks rotated. -/
def product (x : FVec Ideal S6144x7168 .bf16) (h : FVec Ideal S32x32 .bf16) : FVec Ideal S6144x224x32 .f32 :=
  Host.dotGeneral dot_S6144x224x32_S32x32_S6144x224x32_2_0_01_1_n_n none
    (shapeCast S6144x224x32 x shapeCasts_S6144x7168_S6144x224x32 : FVec Ideal S6144x224x32 .bf16) h

/-- The magnitudes of the blocks rotated and scaled by the gain. -/
def magnitudes (x : FVec Ideal S6144x7168 .bf16) (h : FVec Ideal S32x32 .bf16) : FVec Ideal S6144x224x32 .f32 :=
  Host.absf (mulf (product x h) (broadcastInDim S6144x224x32 ![] bcast_S_S6144x224x32 (constant S_ .f32 0x3E3504F3#32)))

/-- The largest of them in each block. -/
def maxima (x : FVec Ideal S6144x7168 .bf16) (h : FVec Ideal S32x32 .bf16) : FVec Ideal S6144x224 .f32 :=
  Host.reduce FloatOps.maximumf (magnitudes x h) (constant S_ .f32 0xFF800000#32) reducesTo_S6144x224x32_S6144x224_d2 h_S_

/-- The scale bytes out of the block maxima. -/
def bytes (a : FVec Ideal S6144x224 .f32) : IVec S6144x224 8 :=
  trunci 8 (addi (select (cmpf .oeq a (broadcastInDim S6144x224 ![] bcast_S_S6144x224 (constant S_ .f32 0x00000000#32)))
      (broadcastInDim S6144x224 ![] bcast_S_S6144x224 (id (constantI S_ 32 0#32)))
      (subi (addi (fptosi 32 (Host.floor (Host.divf (Host.log a)
          (broadcastInDim S6144x224 ![] bcast_S_S6144x224 (Host.log (constant S_ .f32 0x40000000#32))))))
        (broadcastInDim S6144x224 ![] bcast_S_S6144x224 (constantI S_ 32 1#32)))
        (broadcastInDim S6144x224 ![] bcast_S_S6144x224 (constantI S_ 32 3#32))))
    (broadcastInDim S6144x224 ![] bcast_S_S6144x224 (constantI S_ 32 127#32))) natLt_8_32

/-- The reference's run, its result in those parts. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = bytes (maxima (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run (F := Ideal) m ρ

/-! ## The parts, index by index -/

theorem bytes_apply (a : FVec Ideal S6144x224 .f32) (i : S6144x224.Idx) : bytes a i = Exponent.referenceByte (a i) := rfl

theorem product_apply (x : FVec Ideal S6144x7168 .bf16) (h : FVec Ideal S32x32 .bf16) (R : Fin 6144) (B : Fin 224) (j : Fin 32) :
    product x h (ix3 R B j) = ScalesIdeal.Tile.rotated x h R B j := by
  unfold product ScalesIdeal.Tile.rotated
  show FloatOps.dotGeneral _ none _ _ _ (ix3 R B j) = _
  rw [Ideal.dotGeneral_apply, ← Equiv.sum_comp (contrEquiv1 dot_S6144x224x32_S32x32_S6144x224x32_2_0_01_1_n_n 32 rfl rfl).symm]
  refine Finset.sum_congr rfl fun i _ => ?_
  have hi := i.isLt
  have hB := B.isLt
  have c3 := contrEquiv1_symm_val dot_S6144x224x32_S32x32_S6144x224x32_2_0_01_1_n_n 32 rfl rfl i
  have l3 : dot_S6144x224x32_S32x32_S6144x224x32_2_0_01_1_n_n.lhsIdx (ix3 R B j) ((contrEquiv1 _ 32 rfl rfl).symm i) = ix3 R B i := by
    funext ax; apply Fin.ext
    match ax with
    | ⟨0, _⟩ => simp [DotDims.lhsIdx, dot_S6144x224x32_S32x32_S6144x224x32_2_0_01_1_n_n]; rfl
    | ⟨1, _⟩ => simp [DotDims.lhsIdx, dot_S6144x224x32_S32x32_S6144x224x32_2_0_01_1_n_n]; rfl
    | ⟨2, _⟩ => simp [DotDims.lhsIdx, dot_S6144x224x32_S32x32_S6144x224x32_2_0_01_1_n_n]; exact c3
  have r3 : dot_S6144x224x32_S32x32_S6144x224x32_2_0_01_1_n_n.rhsIdx (ix3 R B j) ((contrEquiv1 _ 32 rfl rfl).symm i) = ix2 i j := by
    funext ax; apply Fin.ext
    match ax with
    | ⟨0, _⟩ => simp [DotDims.rhsIdx, dot_S6144x224x32_S32x32_S6144x224x32_2_0_01_1_n_n]; exact c3
    | ⟨1, _⟩ => simp [DotDims.rhsIdx, dot_S6144x224x32_S32x32_S6144x224x32_2_0_01_1_n_n]; rfl
  rw [l3, r3]
  refine congrArg (fun y : EReal => y * h (ix2 i j)) ?_
  refine shapeCast_apply x _ _ (ix2 R (⟨32 * B.val + i.val, by omega⟩ : Fin 7168)) ?_
  rw [Shape.rowMajor_val_three, Shape.rowMajor_val_two]
  show R.val * 7168 + (32 * B.val + i.val) = (R.val * 224 + B.val) * 32 + i.val
  omega

theorem magnitudes_apply (x : FVec Ideal S6144x7168 .bf16) (h : FVec Ideal S32x32 .bf16) (R : Fin 6144) (B : Fin 224) (j : Fin 32) :
    magnitudes x h (ix3 R B j) = ScalesIdeal.Tile.mag (ScalesIdeal.Tile.rotated x h R B j * ScalesIdeal.Tile.gain) := by
  rw [← product_apply]
  rfl

theorem neg_inf : Ideal.ofBits .f32 0xFF800000#32 = ⊥ := by
  simp [Ideal.ofBits, Ideal.ieee]

theorem reduces : S6144x224x32.Reduces [2] S6144x224 := by decide

theorem lift_eq (R : Fin 6144) (B : Fin 224) (j : Fin 32) : reduces.lift (ix2 R B) j = ix3 R B j := by
  funext a
  apply Fin.ext
  refine (reduces.lift_val (ix2 R B) j a).trans ?_
  match a with
  | ⟨0, _⟩ => rfl
  | ⟨1, _⟩ => rfl
  | ⟨2, _⟩ => rfl

/-- The largest magnitude of one block. -/
theorem maxima_apply (x : FVec Ideal S6144x7168 .bf16) (h : FVec Ideal S32x32 .bf16) (R : Fin 6144) (B : Fin 224) :
    maxima x h (ix2 R B) = ScalesIdeal.Tile.maximum x h R B := by
  unfold maxima
  rw [Host.reduce_eq_fold_single _ _ _ _ reduces]
  refine eq_of_forall_ge_iff fun z => ?_
  unfold ScalesIdeal.Tile.maximum
  rw [Finset.sup_le_iff]
  refine (Finset.fold_max_le (s := (Finset.univ : Finset (Fin 32))) (b := Ideal.ofBits .f32 0xFF800000#32)
    (f := (magnitudes x h) ∘ reduces.lift (ix2 R B)) z).trans ?_
  rw [neg_inf]
  have entry : ∀ j : Fin 32, magnitudes x h (reduces.lift (ix2 R B) j)
      = ScalesIdeal.Tile.mag (ScalesIdeal.Tile.rotated x h R B j * ScalesIdeal.Tile.gain) := fun j =>
    (congrArg (magnitudes x h) (lift_eq R B j)).trans (magnitudes_apply x h R B j)
  constructor
  · rintro ⟨_, h1⟩ j hj
    have e := h1 j hj
    exact (entry j).symm.trans_le e
  · intro h1
    refine ⟨bot_le, fun j hj => ?_⟩
    exact (entry j).trans_le (h1 j hj)

/-! ## The precondition -/

theorem threshold_one : Ideal.ofBits .f32 0x00800000#32 = Exponent.threshold 1 := rfl

theorem half_bits : Ideal.ofBits .f32 0x3F000000#32 = ((1 / 2 : ℝ) : EReal) := by
  simp [Ideal.ofBits, Ideal.ieee, -EReal.coe_mul]; norm_num

theorem top_bits : Ideal.ofBits .f32 0x7F000000#32 = (((2 : ℝ) ^ (127 : Int) : ℝ) : EReal) :=
  Exponent.threshold_pow 254 (by omega) (by omega)

/-- A maximum that passes the three comparisons is zero or in the range of the normal numbers. -/
theorem in_range (a : EReal) (h : IntOp.ori (Ideal.cmp .oeq a (Ideal.ofBits .f32 0x00000000#32))
    (IntOp.andi (Ideal.cmp .oge a (Ideal.ofBits .f32 0x00800000#32))
      (Ideal.cmp .olt (a * Ideal.ofBits .f32 0x3F000000#32) (Ideal.ofBits .f32 0x7F000000#32))) = 1#1) : Exponent.InRange a := by
  rw [Exponent.zero_bits, threshold_one, half_bits, top_bits] at h
  by_cases h0 : a = 0
  · exact Or.inl h0
  have e0 : Ideal.cmp .oeq a 0 = 0#1 := by simp [Ideal.cmp, h0]
  have hp := Exponent.threshold_pos 1 (by omega) (by omega)
  by_cases h1 : Exponent.threshold 1 ≤ a
  · by_cases h2 : a * ((1 / 2 : ℝ) : EReal) < (((2 : ℝ) ^ (127 : Int) : ℝ) : EReal)
    · refine Or.inr ⟨h1, ?_⟩
      induction a with
      | bot => exact absurd (lt_of_lt_of_le hp h1) (by simp)
      | top =>
        rw [EReal.top_mul_coe_of_pos (by norm_num)] at h2
        exact absurd h2 (by simp)
      | coe r =>
        rw [← EReal.coe_mul, EReal.coe_lt_coe_iff] at h2
        rw [EReal.coe_lt_coe_iff]
        have : (2 : ℝ) ^ (128 : Int) = 2 * (2 : ℝ) ^ (127 : Int) := by norm_num
        rw [this]; linarith
    · have e2 : Ideal.cmp .olt (a * ((1 / 2 : ℝ) : EReal)) (((2 : ℝ) ^ (127 : Int) : ℝ) : EReal) = 0#1 := by
        simp only [Ideal.cmp, h2, decide_false, BitVec.ofBool_false]; rfl
      rw [e0, e2] at h
      refine absurd h ?_
      generalize Ideal.cmp .oge a (Exponent.threshold 1) = w
      revert w
      decide
  · have e1 : Ideal.cmp .oge a (Exponent.threshold 1) = 0#1 := by
      simp only [Ideal.cmp, h1, decide_false, BitVec.ofBool_false]; rfl
    rw [e0, e1] at h
    refine absurd h ?_
    generalize Ideal.cmp .olt (a * ((1 / 2 : ℝ) : EReal)) (((2 : ℝ) ^ (127 : Int) : ℝ) : EReal) = w
    revert w
    decide

/-- The precondition's three comparisons on an array. -/
def guard (a : FVec Ideal S6144x224 .f32) : IVec S6144x224 1 :=
  ori (cmpf .oeq a (broadcastInDim S6144x224 ![] bcast_S_S6144x224 (constant S_ .f32 0x00000000#32)))
    (andi (cmpf .oge a (broadcastInDim S6144x224 ![] bcast_S_S6144x224 (constant S_ .f32 0x00800000#32)))
      (cmpf .olt (mulf a (broadcastInDim S6144x224 ![] bcast_S_S6144x224 (constant S_ .f32 0x3F000000#32)))
        (broadcastInDim S6144x224 ![] bcast_S_S6144x224 (constant S_ .f32 0x7F000000#32))))

/-- The precondition's array is that of the same maxima. -/
theorem guard_eq (x : FVec Ideal S6144x7168 .bf16) (h : FVec Ideal S32x32 .bf16) :
    Cert.Pre_maxima_in_range.fn (F := Ideal) x h = guard (maxima x h) := by
  unfold Cert.Pre_maxima_in_range.fn guard maxima magnitudes product
  rfl

theorem guard_apply (a : FVec Ideal S6144x224 .f32) (i : S6144x224.Idx) :
    guard a i = IntOp.ori (Ideal.cmp .oeq (a i) (Ideal.ofBits .f32 0x00000000#32))
      (IntOp.andi (Ideal.cmp .oge (a i) (Ideal.ofBits .f32 0x00800000#32))
        (Ideal.cmp .olt (a i * Ideal.ofBits .f32 0x3F000000#32) (Ideal.ofBits .f32 0x7F000000#32))) := rfl

/-- The precondition, on the block maxima. -/
theorem maxima_ok (x : FVec Ideal S6144x7168 .bf16) (h : FVec Ideal S32x32 .bf16)
    (hp : Cert.Pre_maxima_in_range.fn (F := Ideal) x h = fun _ => 1#1) (R : Fin 6144) (B : Fin 224) :
    Exponent.InRange (ScalesIdeal.Tile.maximum x h R B) := by
  have e : guard (maxima x h) = fun _ => 1#1 := (guard_eq x h).symm.trans hp
  have e1 : guard (maxima x h) (ix2 R B) = 1#1 := congrFun e (ix2 R B)
  rw [guard_apply, maxima_apply] at e1
  exact in_range _ e1

end Cert.ScalesRefIdeal.Decoded

end
-- ==== Proof.ScalesRefRun.lean ====
/- The run of the reference for the scale bytes before its floats are read as reals: its host operations one after another, each result
   buffer at the composed term, the arguments unchanged. -/
module

public import proofs.«01_k».proof.Proof.Gen.ScalesRef
public import Idealize.ShloMosaic.Lib.StableHlo.Run

@[expose] public section

noncomputable section

namespace Cert.ScalesRef.Value

open Cert.ScalesRef Cert.ScalesRef.Gen Idealize.ShloMosaic Idealize.ShloMosaic.TcCoe Idealize.SL.Sem Idealize.ShloMosaic.StableHlo

variable {F : FTy → Type} [FloatOps F]

/-- @main's 32 operations, in order (a called function's operations stand in its call's place, spelt `TRef.…`). -/
abbrev ops : List (HloOp τ sig (Elt F)) :=
  [ reshape main_arg0 main_v0 (rfl : (.bf16 : EltTy) = .bf16) shapeCasts_S6144x7168_S6144x224x32,
    binary main_v0 main_arg1 main_v1 ((fun l r => Host.dotGeneral dot_S6144x224x32_S32x32_S6144x224x32_2_0_01_1_n_n none l r) : (⟨S6144x224x32, .bf16⟩ : BufTy).Contents (Elt F) → (⟨S32x32, .bf16⟩ : BufTy).Contents (Elt F) → (⟨S6144x224x32, .f32⟩ : BufTy).Contents (Elt F)),
    nullary main_cst (constant S_ .f32 0x3E3504F3#32),
    unary main_cst main_v2 (broadcastInDim S6144x224x32 ![] bcast_S_S6144x224x32 : (⟨S_, .f32⟩ : BufTy).Contents (Elt F) → (⟨S6144x224x32, .f32⟩ : BufTy).Contents (Elt F)),
    binary main_v1 main_v2 main_v3 (mulf : (⟨S6144x224x32, .f32⟩ : BufTy).Contents (Elt F) → (⟨S6144x224x32, .f32⟩ : BufTy).Contents (Elt F) → (⟨S6144x224x32, .f32⟩ : BufTy).Contents (Elt F)),
    unary main_v3 main_v4 (Host.absf : (⟨S6144x224x32, .f32⟩ : BufTy).Contents (Elt F) → (⟨S6144x224x32, .f32⟩ : BufTy).Contents (Elt F)),
    nullary main_cst_0 (constant S_ .f32 0xFF800000#32),
    binary main_v4 main_cst_0 main_v5 ((fun x v => Host.reduce FloatOps.maximumf x v reducesTo_S6144x224x32_S6144x224_d2 h_S_) : (⟨S6144x224x32, .f32⟩ : BufTy).Contents (Elt F) → (⟨S_, .f32⟩ : BufTy).Contents (Elt F) → (⟨S6144x224, .f32⟩ : BufTy).Contents (Elt F)),
    unary main_v5 main_v6 (Host.log : (⟨S6144x224, .f32⟩ : BufTy).Contents (Elt F) → (⟨S6144x224, .f32⟩ : BufTy).Contents (Elt F)),
    nullary main_cst_1 (constant S_ .f32 0x40000000#32),
    unary main_cst_1 main_v7 (Host.log : (⟨S_, .f32⟩ : BufTy).Contents (Elt F) → (⟨S_, .f32⟩ : BufTy).Contents (Elt F)),
    unary main_v7 main_v8 (broadcastInDim S6144x224 ![] bcast_S_S6144x224 : (⟨S_, .f32⟩ : BufTy).Contents (Elt F) → (⟨S6144x224, .f32⟩ : BufTy).Contents (Elt F)),
    binary main_v6 main_v8 main_v9 (Host.divf : (⟨S6144x224, .f32⟩ : BufTy).Contents (Elt F) → (⟨S6144x224, .f32⟩ : BufTy).Contents (Elt F) → (⟨S6144x224, .f32⟩ : BufTy).Contents (Elt F)),
    unary main_v9 main_v10 (Host.floor : (⟨S6144x224, .f32⟩ : BufTy).Contents (Elt F) → (⟨S6144x224, .f32⟩ : BufTy).Contents (Elt F)),
    unary main_v10 main_v11 (fptosi 32 : (⟨S6144x224, .f32⟩ : BufTy).Contents (Elt F) → (⟨S6144x224, .i32⟩ : BufTy).Contents (Elt F)),
    nullary main_c (constantI S_ 32 1#32),
    unary main_c main_v12 (broadcastInDim S6144x224 ![] bcast_S_S6144x224 : (⟨S_, .i32⟩ : BufTy).Contents (Elt F) → (⟨S6144x224, .i32⟩ : BufTy).Contents (Elt F)),
    binary main_v11 main_v12 main_v13 (addi : (⟨S6144x224, .i32⟩ : BufTy).Contents (Elt F) → (⟨S6144x224, .i32⟩ : BufTy).Contents (Elt F) → (⟨S6144x224, .i32⟩ : BufTy).Contents (Elt F)),
    nullary main_cst_2 (constant S_ .f32 0x00000000#32),
    unary main_cst_2 main_v14 (broadcastInDim S6144x224 ![] bcast_S_S6144x224 : (⟨S_, .f32⟩ : BufTy).Contents (Elt F) → (⟨S6144x224, .f32⟩ : BufTy).Contents (Elt F)),
    binary main_v5 main_v14 main_v15 (cmpf .oeq : (⟨S6144x224, .f32⟩ : BufTy).Contents (Elt F) → (⟨S6144x224, .f32⟩ : BufTy).Contents (Elt F) → (⟨S6144x224, .i1⟩ : BufTy).Contents (Elt F)),
    nullary main_c_3 (constantI S_ 32 3#32),
    unary main_c_3 main_v16 (broadcastInDim S6144x224 ![] bcast_S_S6144x224 : (⟨S_, .i32⟩ : BufTy).Contents (Elt F) → (⟨S6144x224, .i32⟩ : BufTy).Contents (Elt F)),
    binary main_v13 main_v16 main_v17 (subi : (⟨S6144x224, .i32⟩ : BufTy).Contents (Elt F) → (⟨S6144x224, .i32⟩ : BufTy).Contents (Elt F) → (⟨S6144x224, .i32⟩ : BufTy).Contents (Elt F)),
    nullary main_c_4 (constantI S_ 32 0#32),
    TRef.unary (TRef.of (T := ⟨S_, .i32⟩) main_c_4) (TRef.of (T := ⟨S_, .i32⟩) main_call0_v0) id,
    TRef.unary (TRef.of (T := ⟨S_, .i32⟩) main_call0_v0) (TRef.of (T := ⟨S6144x224, .i32⟩) main_call0_v1) (broadcastInDim S6144x224 ![] bcast_S_S6144x224),
    TRef.ternary (TRef.of (T := ⟨S6144x224, .i1⟩) main_v15) (TRef.of (T := ⟨S6144x224, .i32⟩) main_call0_v1) (TRef.of (T := ⟨S6144x224, .i32⟩) main_v17) (TRef.of (T := ⟨S6144x224, .i32⟩) main_v18) select,
    nullary main_c_5 (constantI S_ 32 127#32),
    unary main_c_5 main_v19 (broadcastInDim S6144x224 ![] bcast_S_S6144x224 : (⟨S_, .i32⟩ : BufTy).Contents (Elt F) → (⟨S6144x224, .i32⟩ : BufTy).Contents (Elt F)),
    binary main_v18 main_v19 main_v20 (addi : (⟨S6144x224, .i32⟩ : BufTy).Contents (Elt F) → (⟨S6144x224, .i32⟩ : BufTy).Contents (Elt F) → (⟨S6144x224, .i32⟩ : BufTy).Contents (Elt F)),
    unary main_v20 main_v21 ((trunci 8 · natLt_8_32) : (⟨S6144x224, .i32⟩ : BufTy).Contents (Elt F) → (⟨S6144x224, .i8⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., binary_bufs_sub .., nullary_bufs_sub .., unary_bufs_sub .., binary_bufs_sub .., unary_bufs_sub .., nullary_bufs_sub .., binary_bufs_sub .., unary_bufs_sub .., nullary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub ..⟩

set_option maxHeartbeats 2000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = trunci 8 (addi (select (cmpf .oeq (Host.reduce FloatOps.maximumf (Host.absf (mulf (Host.dotGeneral dot_S6144x224x32_S32x32_S6144x224x32_2_0_01_1_n_n none (shapeCast _ (m ((c.tc : Thread nD τ).loc main_arg0)) shapeCasts_S6144x7168_S6144x224x32) (m ((c.tc : Thread nD τ).loc main_arg1))) (broadcastInDim S6144x224x32 ![] bcast_S_S6144x224x32 (constant S_ .f32 0x3E3504F3#32)))) (constant S_ .f32 0xFF800000#32) reducesTo_S6144x224x32_S6144x224_d2 h_S_) (broadcastInDim S6144x224 ![] bcast_S_S6144x224 (constant S_ .f32 0x00000000#32))) (broadcastInDim S6144x224 ![] bcast_S_S6144x224 (id (constantI S_ 32 0#32))) (subi (addi (fptosi 32 (Host.floor (Host.divf (Host.log (Host.reduce FloatOps.maximumf (Host.absf (mulf (Host.dotGeneral dot_S6144x224x32_S32x32_S6144x224x32_2_0_01_1_n_n none (shapeCast _ (m ((c.tc : Thread nD τ).loc main_arg0)) shapeCasts_S6144x7168_S6144x224x32) (m ((c.tc : Thread nD τ).loc main_arg1))) (broadcastInDim S6144x224x32 ![] bcast_S_S6144x224x32 (constant S_ .f32 0x3E3504F3#32)))) (constant S_ .f32 0xFF800000#32) reducesTo_S6144x224x32_S6144x224_d2 h_S_)) (broadcastInDim S6144x224 ![] bcast_S_S6144x224 (Host.log (constant S_ .f32 0x40000000#32)))))) (broadcastInDim S6144x224 ![] bcast_S_S6144x224 (constantI S_ 32 1#32))) (broadcastInDim S6144x224 ![] bcast_S_S6144x224 (constantI S_ 32 3#32)))) (broadcastInDim S6144x224 ![] bcast_S_S6144x224 (constantI S_ 32 127#32))) natLt_8_32
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v21).trans (by simp only [ops, TRef.ternary, TRef.unary, TRef.toBuf, TRef.ofBuf, cast_eq]; after_results_simp <;> rfl),
      (h c main_arg0).trans (by simp only [ops, TRef.ternary, TRef.unary, TRef.toBuf, TRef.ofBuf, cast_eq]; after_results_simp <;> rfl),
      (h c main_arg1).trans (by simp only [ops, TRef.ternary, TRef.unary, TRef.toBuf, TRef.ofBuf, cast_eq]; after_results_simp <;> rfl)⟩)
    (run_seq scopedRefs_eq scopedSems_eq defs main (fun _ => ops) main_eq (fun _ => ops_sub) m ρ)

end Cert.ScalesRef.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Quantise
public import proofs.«01_k».proof.Proof.Gen.Quantise.Skeleton
public import proofs.«01_k».proof.Proof.Gen.Quantise.Loops
public import proofs.«01_k».proof.Proof.Gen.Quantise.Launch
public import proofs.«01_k».proof.Proof.Gen.Quantise.Points
public import proofs.«01_k».proof.Proof.Gen.Quantise.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_scales_in_range
public import proofs.«01_k».proof.Proof.Gen.KernelIdeal.Value
public import proofs.«01_k».proof.Proof.Gen.ReferenceIdeal.Run
public import proofs.«01_k».proof.Proof.Gen.Scales
public import proofs.«01_k».proof.Proof.Gen.Scales.Skeleton
public import proofs.«01_k».proof.Proof.Gen.Scales.Loops
public import proofs.«01_k».proof.Proof.Gen.Scales.Launch
public import proofs.«01_k».proof.Proof.Gen.Scales.Points
public import proofs.«01_k».proof.Proof.Gen.Scales.Frame
public import proofs.«01_k».proof.Proof.Gen.ScalesIdeal
public import proofs.«01_k».proof.Proof.Gen.ScalesIdeal.Skeleton
public import proofs.«01_k».proof.Proof.Gen.ScalesIdeal.Loops
public import proofs.«01_k».proof.Proof.Gen.ScalesIdeal.Launch
public import proofs.«01_k».proof.Proof.Gen.ScalesIdeal.Points
public import proofs.«01_k».proof.Proof.Gen.ScalesIdeal.Frame
public import proofs.«01_k».proof.Proof.Gen.ScalesRefIdeal
public import proofs.«01_k».proof.Proof.Gen.ScalesRef
public import proofs.«01_k».proof.Proof.Gen.Pre_maxima_in_range
public import proofs.«01_k».proof.Proof.Gen.ScalesIdeal.Value
public import proofs.«01_k».proof.Proof.Gen.ScalesRefIdeal.Run
public import proofs.«01_k».proof.Proof.KernelValue
public import proofs.«01_k».proof.Proof.RefValue
public import proofs.«01_k».proof.Proof.ScalesBlocks
public import proofs.«01_k».proof.Proof.ScalesRefValue
public import proofs.«01_k».proof.Proof.ScalesRefRun
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- A scale byte that passes both comparisons lies from 1 to 254. -/
theorem byte_in_range : ∀ s : BitVec 8,
    IntOp.andi (IntOp.cmpi .sge (s.setWidth 32) 1#32) (IntOp.cmpi .sle (s.setWidth 32) 254#32) = 1#1 → 1 ≤ s.toNat ∧ s.toNat ≤ 254 := by
  decide +kernel

/-- The precondition, on the bytes themselves. -/
theorem scales_ok (m : (ℓ : Loc Cert.KernelIdeal.nD Cert.KernelIdeal.τ Cert.KernelIdeal.sig) → Buf (Elt Ideal) ℓ)
    (h : Cert.Pre_KernelIdeal_scales_in_range m) (c : Dev Cert.KernelIdeal.nD) : Cert.KernelIdeal.Blocks.ScalesOk m c := by
  intro i
  exact byte_in_range _ (congrFun (h c) i)

/-- The kernel's result and the reference's, from memories whose arguments agree, are equal. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_scales_in_range m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_out0 m' c = Cert.KernelIdeal.Value.G3 m c := by
  refine (Cert.ReferenceIdeal.Decoded.res_eq m' c).trans ?_
  rw [e0, e1, e2]
  funext i
  obtain ⟨R, C, rfl⟩ : ∃ (R : Fin 6144) (C : Fin 18432), i = ValueIdx.ix2 R C :=
    ⟨i 0, i 1, by funext a; match a with | ⟨0, _⟩ => rfl | ⟨1, _⟩ => rfl⟩
  exact (Cert.ReferenceIdeal.Decoded.result_apply _ _ _ R C).trans (Cert.KernelIdeal.Blocks.result_apply m c (scales_ok m h c) R C).symm

/-- The reference leaves its arguments unchanged and its counters at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem algebraic : Cert.algebraic_KernelIdeal_ReferenceIdeal_pre_scales_in_range := by
  intro m g m' g' h e
  refine ⟨fun c => Cert.KernelIdeal.Value.G3 m c, Cert.KernelIdeal.Value.run m g, ?_⟩
  refine (θ_run Cert.ReferenceIdeal.defs _ _).mono (fun r hr c => ?_) (Cert.ReferenceIdeal.Value.run (F := Ideal) m' g')
  obtain ⟨e0, e1, e2⟩ := e c
  exact ⟨(hr c).1.trans (results_eq m m' h c e0 e1 e2), (hr c).2⟩

/-- The scales' reference over the reals leaves its arguments unchanged and its counters at zero. -/
theorem scales_reference_ideal_frame (m : (ℓ : Loc Cert.ScalesRefIdeal.nD Cert.ScalesRefIdeal.τ Cert.ScalesRefIdeal.sig) → Buf (Elt Ideal) ℓ) (g : Dev Cert.ScalesRefIdeal.nD → PrngReg) :
    θ_run (Cert.ScalesRefIdeal.defs (F := Ideal)) (onTc (τ := Cert.ScalesRefIdeal.τ) (Cert.ScalesRefIdeal.main (F := Ideal))) ⟨m, fun _ => 0, g⟩ (fun r => (∀ c : Dev Cert.ScalesRefIdeal.nD,
      r.2.mem ((c.tc : Thread Cert.ScalesRefIdeal.nD Cert.ScalesRefIdeal.τ).loc Cert.ScalesRefIdeal.main_arg0) = m ((c.tc : Thread Cert.ScalesRefIdeal.nD Cert.ScalesRefIdeal.τ).loc Cert.ScalesRefIdeal.main_arg0)
      ∧ r.2.mem ((c.tc : Thread Cert.ScalesRefIdeal.nD Cert.ScalesRefIdeal.τ).loc Cert.ScalesRefIdeal.main_arg1) = m ((c.tc : Thread Cert.ScalesRefIdeal.nD Cert.ScalesRefIdeal.τ).loc Cert.ScalesRefIdeal.main_arg1))
      ∧ r.2.sem = fun _ => 0) :=
  (θ_run Cert.ScalesRefIdeal.defs _ _).mono
    (fun r h => ⟨fun c => (h c).2, Idealize.ShloMosaic.sem_eq_zero_of_no_sems (by decide) r.2⟩)
    (Cert.ScalesRefIdeal.Value.run (F := Ideal) m g)

/-- The same at the machine's floats. -/
theorem scales_reference_frame (m : (ℓ : Loc Cert.ScalesRef.nD Cert.ScalesRef.τ Cert.ScalesRef.sig) → Buf (Elt Bits) ℓ) (g : Dev Cert.ScalesRef.nD → PrngReg) :
    θ_run (Cert.ScalesRef.defs (F := Bits)) (onTc (τ := Cert.ScalesRef.τ) (Cert.ScalesRef.main (F := Bits))) ⟨m, fun _ => 0, g⟩ (fun r => (∀ c : Dev Cert.ScalesRef.nD,
      r.2.mem ((c.tc : Thread Cert.ScalesRef.nD Cert.ScalesRef.τ).loc Cert.ScalesRef.main_arg0) = m ((c.tc : Thread Cert.ScalesRef.nD Cert.ScalesRef.τ).loc Cert.ScalesRef.main_arg0)
      ∧ r.2.mem ((c.tc : Thread Cert.ScalesRef.nD Cert.ScalesRef.τ).loc Cert.ScalesRef.main_arg1) = m ((c.tc : Thread Cert.ScalesRef.nD Cert.ScalesRef.τ).loc Cert.ScalesRef.main_arg1))
      ∧ r.2.sem = fun _ => 0) :=
  (θ_run Cert.ScalesRef.defs _ _).mono
    (fun r h => ⟨fun c => (h c).2, Idealize.ShloMosaic.sem_eq_zero_of_no_sems (by decide) r.2⟩)
    (Cert.ScalesRef.Value.run (F := Bits) m g)

/-- The scales' call leaves, over the reals, the bytes the reference leaves, from memories whose arguments agree. -/
theorem scales_eq (m : (ℓ : Loc Cert.ScalesIdeal.nD Cert.ScalesIdeal.τ Cert.ScalesIdeal.sig) → Buf (Elt Ideal) ℓ)
    (m' : (ℓ : Loc Cert.ScalesRefIdeal.nD Cert.ScalesRefIdeal.τ Cert.ScalesRefIdeal.sig) → Buf (Elt Ideal) ℓ)
    (h : Cert.Pre_ScalesIdeal_maxima_in_range m) (c : Dev Cert.ScalesIdeal.nD)
    (e0 : m' ((c.tc : Thread Cert.ScalesRefIdeal.nD Cert.ScalesRefIdeal.τ).loc Cert.ScalesRefIdeal.main_arg0) = m ((c.tc : Thread Cert.ScalesIdeal.nD Cert.ScalesIdeal.τ).loc Cert.ScalesIdeal.main_arg0))
    (e1 : m' ((c.tc : Thread Cert.ScalesRefIdeal.nD Cert.ScalesRefIdeal.τ).loc Cert.ScalesRefIdeal.main_arg1) = m ((c.tc : Thread Cert.ScalesIdeal.nD Cert.ScalesIdeal.τ).loc Cert.ScalesIdeal.main_arg1)) :
    Cert.ScalesRefIdeal.Decoded.bytes (Cert.ScalesRefIdeal.Decoded.maxima (m' ((c.tc : Thread Cert.ScalesRefIdeal.nD Cert.ScalesRefIdeal.τ).loc Cert.ScalesRefIdeal.main_arg0))
        (m' ((c.tc : Thread Cert.ScalesRefIdeal.nD Cert.ScalesRefIdeal.τ).loc Cert.ScalesRefIdeal.main_arg1)))
      = (Cert.ScalesIdeal.Gen.dats m 0 c).arrAt 3 Cert.ScalesIdeal.cfg0.N := by
  rw [e0, e1]
  funext i
  obtain ⟨R, B, rfl⟩ : ∃ (R : Fin 6144) (B : Fin 224), i = ValueIdx.ix2 R B :=
    ⟨i 0, i 1, by funext a; match a with | ⟨0, _⟩ => rfl | ⟨1, _⟩ => rfl⟩
  refine Eq.trans ?_ (Cert.ScalesIdeal.Blocks.result_apply m c R B).symm
  refine (Cert.ScalesRefIdeal.Decoded.bytes_apply _ _).trans ?_
  refine (congrArg Cert.Exponent.referenceByte (Cert.ScalesRefIdeal.Decoded.maxima_apply _ _ R B)).trans ?_
  exact (Cert.Exponent.bytes_eq _ (Cert.ScalesRefIdeal.Decoded.maxima_ok _ _ (h c) R B)).symm

theorem scales_algebraic : Cert.algebraic_ScalesIdeal_ScalesRefIdeal_pre_maxima_in_range := by
  intro m g m' g' h e
  refine ⟨fun c => (Cert.ScalesIdeal.Gen.dats m 0 c).arrAt 3 Cert.ScalesIdeal.cfg0.N, ?_, ?_⟩
  · exact (θ_run Cert.ScalesIdeal.defs _ _).mono (fun r hr c => ⟨(hr c).2.1, (hr c).2.2.2.1, (hr c).2.2.2.2⟩)
      (Cert.ScalesIdeal.Value.run_blocks m g)
  · refine (θ_run Cert.ScalesRefIdeal.defs _ _).mono (fun r hr c => ?_) (Cert.ScalesRefIdeal.Decoded.run m' g')
    obtain ⟨e0, e1⟩ := e c
    exact ⟨(hr c).1.trans (scales_eq m m' h c e0 e1), (hr c).2⟩

theorem claim : Cert.Claim :=
  ⟨Cert.Kernel.Gen.facts, Cert.Quantise.Gen.facts, Cert.KernelIdeal.Gen.facts, Cert.ReferenceIdeal.Gen.facts, Cert.Scales.Gen.facts, Cert.ScalesIdeal.Gen.facts,
    Cert.ScalesRefIdeal.Gen.facts, Cert.ScalesRef.Gen.facts, Cert.Pre_scales_in_range.Gen.facts, Cert.Pre_maxima_in_range.Gen.facts,
    fun m g _ => Cert.Kernel.Gen.frame m g,
    fun m g _ => Cert.Quantise.Gen.frame m g,
    fun m g _ => Cert.KernelIdeal.Gen.frame m g,
    fun m g _ => Cert.KernelIdeal.Gen.frame m g,
    fun m g _ => reference_frame m g,
    fun m g _ => reference_frame m g,
    fun m g _ => Cert.Scales.Gen.frame m g,
    fun m g _ => Cert.ScalesIdeal.Gen.frame m g,
    fun m g _ => Cert.ScalesIdeal.Gen.frame m g,
    fun m g _ => scales_reference_ideal_frame m g,
    fun m g _ => scales_reference_ideal_frame m g,
    fun m g _ => scales_reference_frame m g,
    ⟨IdealRules.bf16_pair.packStatement _, IdealRules.bf16_pair.statement _ _⟩,
    algebraic,
    trivial,
    trivial,
    scales_algebraic⟩

end Cert.Proof

end
